-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "a64" .f32 0x416C5F04#32 (((256 / 25) * (Real.log 2)⁻¹ : ℝ) : EReal)
  ∧ IdealRules.named_const.Statement Cert.KernelIdeal.κ "a16" .f32 0x3ED21B92#32 (((64 / 225) * (Real.log 2)⁻¹ : ℝ) : EReal)

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v66_1)) (v2 : (c : Dev Cert.KernelIdeal.nD) → Buf (Elt Ideal) ((c.tc : Thread Cert.KernelIdeal.nD Cert.KernelIdeal.τ).loc Cert.KernelIdeal.main_v66_0)) (v3 : (c : Dev Cert.KernelIdeal.nD) → Buf (Elt Ideal) ((c.tc : Thread Cert.KernelIdeal.nD Cert.KernelIdeal.τ).loc Cert.KernelIdeal.main_v66_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v66_1) = v1 c
          ∧ r.2.mem ((c.tc : Thread Cert.KernelIdeal.nD Cert.KernelIdeal.τ).loc Cert.KernelIdeal.main_v66_0) = v2 c
          ∧ r.2.mem ((c.tc : Thread Cert.KernelIdeal.nD Cert.KernelIdeal.τ).loc Cert.KernelIdeal.main_v66_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S16384x3 : Shape := ⟨2, ![16384, 3]⟩
abbrev S16384 : Shape := ⟨1, ![16384]⟩
abbrev S_ : Shape := ⟨0, ![]⟩
abbrev S16 : Shape := ⟨1, ![16]⟩
abbrev S16384x1 : Shape := ⟨2, ![16384, 1]⟩
abbrev S16x3 : Shape := ⟨2, ![16, 3]⟩
abbrev S16x1 : Shape := ⟨2, ![16, 1]⟩
abbrev S16x8 : Shape := ⟨2, ![16, 8]⟩
abbrev S128 : Shape := ⟨1, ![128]⟩
abbrev S7 : Shape := ⟨1, ![7]⟩
abbrev S1 : Shape := ⟨1, ![1]⟩
abbrev S8 : Shape := ⟨1, ![8]⟩
abbrev S128x1 : Shape := ⟨2, ![128, 1]⟩
abbrev S128x3 : Shape := ⟨2, ![128, 3]⟩
abbrev S128x1x3 : Shape := ⟨3, ![128, 1, 3]⟩
abbrev S1x16384x3 : Shape := ⟨3, ![1, 16384, 3]⟩
abbrev S128x16384x3 : Shape := ⟨3, ![128, 16384, 3]⟩
abbrev S1x16384 : Shape := ⟨2, ![1, 16384]⟩
abbrev S128x16384 : Shape := ⟨2, ![128, 16384]⟩

class Facts : Prop where
  bcast_S_S16384x3 : S_.BroadcastsInDim S16384x3 (![] : Fin 0 → Fin S16384x3.rank)
  bcast_S_S16384 : S_.BroadcastsInDim S16384 (![] : Fin 0 → Fin S16384.rank)
  bcast_S_S16 : S_.BroadcastsInDim S16 (![] : Fin 0 → Fin S16.rank)
  bcast_S16384_S16384x1_0 : S16384.BroadcastsInDim S16384x1 (![0] : Fin 1 → Fin S16384x1.rank)
  bcast_S_S16x3 : S_.BroadcastsInDim S16x3 (![] : Fin 0 → Fin S16x3.rank)
  bcast_S16_S16x1_0 : S16.BroadcastsInDim S16x1 (![0] : Fin 1 → Fin S16x1.rank)
  bcast_S16x1_S16x3_0_1 : S16x1.BroadcastsInDim S16x3 (![0, 1] : Fin 2 → Fin S16x3.rank)
  bcast_S16_S16x8_0 : S16.BroadcastsInDim S16x8 (![0] : Fin 1 → Fin S16x8.rank)
  shapeCasts_S16x8_S128 : S16x8.ShapeCasts S128
  bcast_S_S7 : S_.BroadcastsInDim S7 (![] : Fin 0 → Fin S7.rank)
  shapeCasts_S_S1 : S_.ShapeCasts S1
  bcast_S1_S7_0 : S1.BroadcastsInDim S7 (![0] : Fin 1 → Fin S7.rank)
  bcast_S_S1 : S_.BroadcastsInDim S1 (![] : Fin 0 → Fin S1.rank)
  concatenates_S7_S1_S8_d0 : Shape.Concatenates [S7, S1] S8 0
  bcast_S_S128 : S_.BroadcastsInDim S128 (![] : Fin 0 → Fin S128.rank)
  bcast_S128_S128x1_0 : S128.BroadcastsInDim S128x1 (![0] : Fin 1 → Fin S128x1.rank)
  bcast_S128x1_S128x3_0_1 : S128x1.BroadcastsInDim S128x3 (![0, 1] : Fin 2 → Fin S128x3.rank)
  bcast_S128x3_S128x1x3_0_2 : S128x3.BroadcastsInDim S128x1x3 (![0, 2] : Fin 2 → Fin S128x1x3.rank)
  bcast_S16384x3_S1x16384x3_1_2 : S16384x3.BroadcastsInDim S1x16384x3 (![1, 2] : Fin 2 → Fin S1x16384x3.rank)
  bcast_S128x1x3_S128x16384x3_0_1_2 : S128x1x3.BroadcastsInDim S128x16384x3 (![0, 1, 2] : Fin 3 → Fin S128x16384x3.rank)
  bcast_S1x16384x3_S128x16384x3_0_1_2 : S1x16384x3.BroadcastsInDim S128x16384x3 (![0, 1, 2] : Fin 3 → Fin S128x16384x3.rank)
  bcast_S16384_S1x16384_1 : S16384.BroadcastsInDim S1x16384 (![1] : Fin 1 → Fin S1x16384.rank)
  bcast_S128x1_S128x16384_0_1 : S128x1.BroadcastsInDim S128x16384 (![0, 1] : Fin 2 → Fin S128x16384.rank)
  bcast_S1x16384_S128x16384_0_1 : S1x16384.BroadcastsInDim S128x16384 (![0, 1] : Fin 2 → Fin S128x16384.rank)
  reducesTo_S128x16384x3_S128x16384_d2 : S128x16384x3.ReducesTo [2] S128x16384
  h_S_ : 0 < S_.numel
  bcast_S_S128x16384 : S_.BroadcastsInDim S128x16384 (![] : Fin 0 → Fin S128x16384.rank)
  scatter_S16_S16384x1_S16384_n_0_0_1_wf : ScatterDims.WF S16 S16384x1 S16384 [] [0] [0] 1
  scatter_S16x3_S16384x1_S16384x3_1_0_0_1_wf : ScatterDims.WF S16x3 S16384x1 S16384x3 [1] [0] [0] 1
  gather_S16x3_S128x1_S128x3_1_0_n_n_0_1_13_wf : GatherDims.WF S16x3 S128x1 S128x3 [1] [0] [] [0] [] 1 ![1, 3]
  gather_S8_S128x1_S128_n_0_n_n_0_1_1_wf : GatherDims.WF S8 S128x1 S128 [] [0] [] [0] [] 1 ![1]

variable [Facts]

def scatter_S16_S16384x1_S16384_n_0_0_1 : ScatterDims S16 S16384x1 S16384 where
  updateWindowDims := []
  insertedWindowDims := [0]
  scatterDimsToOperandDims := [0]
  indexVectorDim := 1
  wf := scatter_S16_S16384x1_S16384_n_0_0_1_wf
def scatter_S16x3_S16384x1_S16384x3_1_0_0_1 : ScatterDims S16x3 S16384x1 S16384x3 where
  updateWindowDims := [1]
  insertedWindowDims := [0]
  scatterDimsToOperandDims := [0]
  indexVectorDim := 1
  wf := scatter_S16x3_S16384x1_S16384x3_1_0_0_1_wf
def gather_S16x3_S128x1_S128x3_1_0_n_n_0_1_13 : GatherDims S16x3 S128x1 S128x3 where
  offsetDims := [1]
  collapsedSliceDims := [0]
  operandBatchingDims := []
  startIndicesBatchingDims := []
  startIndexMap := [0]
  indexVectorDim := 1
  sliceSizes := ![1, 3]
  wf := gather_S16x3_S128x1_S128x3_1_0_n_n_0_1_13_wf
def gather_S8_S128x1_S128_n_0_n_n_0_1_1 : GatherDims S8 S128x1 S128 where
  offsetDims := []
  collapsedSliceDims := [0]
  operandBatchingDims := []
  startIndicesBatchingDims := []
  startIndexMap := [0]
  indexVectorDim := 1
  sliceSizes := ![1]
  wf := gather_S8_S128x1_S128_n_0_n_n_0_1_1_wf
def fn_linspace {F : FTy → Type} [FloatOps F] (arg0 : FVec F S_ .f32) (arg1 : FVec F S_ .f32) : FVec F S8 .f32 :=
  let v0 : FVec F S_ .f32 := id arg0
  let v1 : FVec F S_ .f32 := id arg1
  let v2 : FVec F S_ .f32 := subf v1 v0
  let cst : FVec F S_ .f32 := constant S_ .f32 0x40E00000#32
  let v3 : FVec F S_ .f32 := Host.divf v2 cst
  let v4 : FVec F S7 .f32 := sitofp .f32 (iotaInDim S7 32 0)
  let cst_0 : FVec F S_ .f32 := constant S_ .f32 0x40E00000#32
  let v5 : FVec F S7 .f32 := broadcastInDim S7 ![] bcast_S_S7 cst_0
  let v6 : FVec F S7 .f32 := Host.divf v4 v5
  let v7 : FVec F S1 .f32 := shapeCast S1 v0 shapeCasts_S_S1
  let cst_1 : FVec F S_ .f32 := constant S_ .f32 0x3F800000#32
  let v8 : FVec F S7 .f32 := broadcastInDim S7 ![] bcast_S_S7 cst_1
  let v9 : FVec F S7 .f32 := subf v8 v6
  let v10 : FVec F S7 .f32 := broadcastInDim S7 ![0] bcast_S1_S7_0 v7
  let v11 : FVec F S7 .f32 := mulf v10 v9
  let v12 : FVec F S1 .f32 := shapeCast S1 v1 shapeCasts_S_S1
  let v13 : FVec F S7 .f32 := broadcastInDim S7 ![0] bcast_S1_S7_0 v12
  let v14 : FVec F S7 .f32 := mulf v13 v6
  let v15 : FVec F S7 .f32 := addf v11 v14
  let v16 : FVec F S1 .f32 := broadcastInDim S1 ![] bcast_S_S1 v1
  let v17 : FVec F S8 .f32 := (fun a b => concatenate S8 0 [⟨S7, a⟩, ⟨S1, b⟩] concatenates_S7_S1_S8_d0) v15 v16
  v17

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S128 32) (arg1 : IVec S_ 32) : IVec S128 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S128 32 := broadcastInDim S128 ![] bcast_S_S128 v2
  let v4 : IVec S128 32 := Host.remsi arg0 v3
  let c_1 : IVec S_ 32 := constantI S_ 32 0#32
  let v5 : IVec S128 32 := broadcastInDim S128 ![] bcast_S_S128 c_1
  let v6 : IVec S128 1 := cmpi .ne v4 v5
  let c_2 : IVec S_ 32 := constantI S_ 32 0#32
  let v7 : IVec S128 32 := broadcastInDim S128 ![] bcast_S_S128 c_2
  let v8 : IVec S128 1 := cmpi .slt v4 v7
  let c_3 : IVec S_ 32 := constantI S_ 32 0#32
  let v9 : IVec S_ 1 := cmpi .slt v2 c_3
  let v10 : IVec S128 1 := broadcastInDim S128 ![] bcast_S_S128 v9
  let v11 : IVec S128 1 := cmpi .ne v8 v10
  let v12 : IVec S128 1 := andi v11 v6
  let v13 : IVec S128 32 := broadcastInDim S128 ![] bcast_S_S128 v2
  let v14 : IVec S128 32 := addi v4 v13
  let v15 : IVec S128 32 := select v12 v14 v4
  v15

def fn_part3 {F : FTy → Type} [FloatOps F] (main_v2 : IVec S16384x3 1) (main_v7 : IVec S16384 1) (main_v52 : IVec S128x16384 1) (main_v54 : FVec F S128x16384 .f32) (main_v55 : FVec F S128x16384 .f32) : IVec S16384x3 1 × IVec S16384 1 × IVec S128x16384 1 :=
  let main_v56 : IVec S128x16384 1 := cmpf .oge main_v54 main_v55
  let main_v57 : IVec S128x16384 1 := ori main_v52 main_v56
  (main_v2, main_v7, main_v57)

def fn_part2 {F : FTy → Type} [FloatOps F] (main_arg0 : FVec F S16384x3 .f32) (main_arg1 : IVec S16384 32) (main_v2 : IVec S16384x3 1) (main_v7 : IVec S16384 1) (main_v22 : IVec S128 32) (main_v23 : FVec F S8 .f32) (main_v30 : FVec F S128x3 .f32) (main_v32 : IVec S128 32) (main_v34 : IVec S128 1) : IVec S16384x3 1 × IVec S16384 1 × IVec S128x16384 1 :=
  let main_c_11 : IVec S_ 32 := constantI S_ 32 8#32
  let main_v35 : IVec S128 32 := broadcastInDim S128 ![] bcast_S_S128 main_c_11
  let main_v36 : IVec S128 32 := addi main_v32 main_v35
  let main_v37 : IVec S128 32 := select main_v34 main_v36 main_v32
  let main_v38 : IVec S128x1 32 := broadcastInDim S128x1 ![0] bcast_S128_S128x1_0 main_v37
  let main_v39 : FVec F S128 .f32 := (fun x i => Host.gather gather_S8_S128x1_S128_n_0_n_n_0_1_1 x i) main_v23 main_v38
  let main_v40 : FVec F S128x1 .f32 := broadcastInDim S128x1 ![0] bcast_S128_S128x1_0 main_v39
  let main_v41 : FVec F S128x3 .f32 := broadcastInDim S128x3 ![0, 1] bcast_S128x1_S128x3_0_1 main_v40
  let main_v42 : FVec F S128x3 .f32 := addf main_v30 main_v41
  let main_v43 : FVec F S128x1x3 .f32 := broadcastInDim S128x1x3 ![0, 2] bcast_S128x3_S128x1x3_0_2 main_v42
  let main_v44 : FVec F S1x16384x3 .f32 := broadcastInDim S1x16384x3 ![1, 2] bcast_S16384x3_S1x16384x3_1_2 main_arg0
  let main_v45 : FVec F S128x16384x3 .f32 := broadcastInDim S128x16384x3 ![0, 1, 2] bcast_S128x1x3_S128x16384x3_0_1_2 main_v43
  let main_v46 : FVec F S128x16384x3 .f32 := broadcastInDim S128x16384x3 ![0, 1, 2] bcast_S1x16384x3_S128x16384x3_0_1_2 main_v44
  let main_v47 : FVec F S128x16384x3 .f32 := subf main_v45 main_v46
  let main_v48 : IVec S128x1 32 := broadcastInDim S128x1 ![0] bcast_S128_S128x1_0 main_v22
  let main_v49 : IVec S1x16384 32 := broadcastInDim S1x16384 ![1] bcast_S16384_S1x16384_1 main_arg1
  let main_v50 : IVec S128x16384 32 := broadcastInDim S128x16384 ![0, 1] bcast_S128x1_S128x16384_0_1 main_v48
  let main_v51 : IVec S128x16384 32 := broadcastInDim S128x16384 ![0, 1] bcast_S1x16384_S128x16384_0_1 main_v49
  let main_v52 : IVec S128x16384 1 := cmpi .ne main_v50 main_v51
  let main_v53 : FVec F S128x16384x3 .f32 := mulf main_v47 main_v47
  let main_cst_12 : FVec F S_ .f32 := constant S_ .f32 0x00000000#32
  let main_v54 : FVec F S128x16384 .f32 := (fun x v => Host.reduceAdd x v reducesTo_S128x16384x3_S128x16384_d2 h_S_) main_v53 main_cst_12
  let main_cst_13 : FVec F S_ .f32 := constant S_ .f32 0x1EEC1E4A#32
  let main_v55 : FVec F S128x16384 .f32 := broadcastInDim S128x16384 ![] bcast_S_S128x16384 main_cst_13
  fn_part3 (F := F) main_v2 main_v7 main_v52 main_v54 main_v55

def fn_part1 {F : FTy → Type} [FloatOps F] (main_arg0 : FVec F S16384x3 .f32) (main_arg1 : IVec S16384 32) (main_v2 : IVec S16384x3 1) (main_v7 : IVec S16384 1) (main_v14 : FVec F S16x3 .f32) (main_v16 : FVec F S16 .f32) : IVec S16384x3 1 × IVec S16384 1 × IVec S128x16384 1 :=
  let main_v17 : FVec F S16x1 .f32 := broadcastInDim S16x1 ![0] bcast_S16_S16x1_0 main_v16
  let main_v18 : FVec F S16x3 .f32 := broadcastInDim S16x3 ![0, 1] bcast_S16x1_S16x3_0_1 main_v17
  let main_v19 : FVec F S16x3 .f32 := Host.divf main_v14 main_v18
  let main_v20 : IVec S16 32 := iotaInDim S16 32 0
  let main_v21 : IVec S16x8 32 := broadcastInDim S16x8 ![0] bcast_S16_S16x8_0 main_v20
  let main_v22 : IVec S128 32 := shapeCast S128 main_v21 shapeCasts_S16x8_S128
  let main_cst_5 : FVec F S_ .f32 := constant S_ .f32 0xBF800000#32
  let main_cst_6 : FVec F S_ .f32 := constant S_ .f32 0x3F800000#32
  let main_v23 : FVec F S8 .f32 := fn_linspace (F := F) main_cst_5 main_cst_6
  let main_c_7 : IVec S_ 32 := constantI S_ 32 0#32
  let main_v24 : IVec S128 32 := broadcastInDim S128 ![] bcast_S_S128 main_c_7
  let main_v25 : IVec S128 1 := cmpi .slt main_v22 main_v24
  let main_c_8 : IVec S_ 32 := constantI S_ 32 16#32
  let main_v26 : IVec S128 32 := broadcastInDim S128 ![] bcast_S_S128 main_c_8
  let main_v27 : IVec S128 32 := addi main_v22 main_v26
  let main_v28 : IVec S128 32 := select main_v25 main_v27 main_v22
  let main_v29 : IVec S128x1 32 := broadcastInDim S128x1 ![0] bcast_S128_S128x1_0 main_v28
  let main_v30 : FVec F S128x3 .f32 := (fun x i => Host.gather gather_S16x3_S128x1_S128x3_1_0_n_n_0_1_13 x i) main_v19 main_v29
  let main_v31 : IVec S128 32 := iotaInDim S128 32 0
  let main_c_9 : IVec S_ 32 := constantI S_ 32 8#32
  let main_v32 : IVec S128 32 := fn_remainder (F := F) main_v31 main_c_9
  let main_c_10 : IVec S_ 32 := constantI S_ 32 0#32
  let main_v33 : IVec S128 32 := broadcastInDim S128 ![] bcast_S_S128 main_c_10
  let main_v34 : IVec S128 1 := cmpi .slt main_v32 main_v33
  fn_part2 (F := F) main_arg0 main_arg1 main_v2 main_v7 main_v22 main_v23 main_v30 main_v32 main_v34

def fn {F : FTy → Type} [FloatOps F] (main_arg0 : FVec F S16384x3 .f32) (main_arg1 : IVec S16384 32) : IVec S16384x3 1 × IVec S16384 1 × IVec S128x16384 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 32 := constantI S_ 32 0#32
  let main_v3 : IVec S16384 32 := broadcastInDim S16384 ![] bcast_S_S16384 main_c
  let main_v4 : IVec S16384 1 := cmpi .sge main_arg1 main_v3
  let main_c_0 : IVec S_ 32 := constantI S_ 32 16#32
  let main_v5 : IVec S16384 32 := broadcastInDim S16384 ![] bcast_S_S16384 main_c_0
  let main_v6 : IVec S16384 1 := cmpi .slt main_arg1 main_v5
  let main_v7 : IVec S16384 1 := andi main_v4 main_v6
  let main_cst_1 : FVec F S_ .f32 := constant S_ .f32 0x3F800000#32
  let main_v8 : FVec F S16384 .f32 := broadcastInDim S16384 ![] bcast_S_S16384 main_cst_1
  let main_cst_2 : FVec F S_ .f32 := constant S_ .f32 0x00000000#32
  let main_v9 : FVec F S16 .f32 := broadcastInDim S16 ![] bcast_S_S16 main_cst_2
  let main_v10 : IVec S16384x1 32 := broadcastInDim S16384x1 ![0] bcast_S16384_S16384x1_0 main_arg1
  let main_v11 : FVec F S16 .f32 := (fun x i u => Host.scatterAdd scatter_S16_S16384x1_S16384_n_0_0_1 x i u) main_v9 main_v10 main_v8
  let main_cst_3 : FVec F S_ .f32 := constant S_ .f32 0x00000000#32
  let main_v12 : FVec F S16x3 .f32 := broadcastInDim S16x3 ![] bcast_S_S16x3 main_cst_3
  let main_v13 : IVec S16384x1 32 := broadcastInDim S16384x1 ![0] bcast_S16384_S16384x1_0 main_arg1
  let main_v14 : FVec F S16x3 .f32 := (fun x i u => Host.scatterAdd scatter_S16x3_S16384x1_S16384x3_1_0_0_1 x i u) main_v12 main_v13 main_arg0
  let main_cst_4 : FVec F S_ .f32 := constant S_ .f32 0x3F800000#32
  let main_v15 : FVec F S16 .f32 := broadcastInDim S16 ![] bcast_S_S16 main_cst_4
  let main_v16 : FVec F S16 .f32 := maximumf main_v11 main_v15
  fn_part1 (F := F) main_arg0 main_arg1 main_v2 main_v7 main_v14 main_v16
-- ==== Kernel.lean ====
abbrev S16384x3 : Shape := ⟨2, ![16384, 3]⟩
abbrev S16384 : Shape := ⟨1, ![16384]⟩
abbrev S16 : Shape := ⟨1, ![16]⟩
abbrev S16x8 : Shape := ⟨2, ![16, 8]⟩
abbrev S128 : Shape := ⟨1, ![128]⟩
abbrev S_ : Shape := ⟨0, ![]⟩
abbrev S128x1 : Shape := ⟨2, ![128, 1]⟩
abbrev S128x3 : Shape := ⟨2, ![128, 3]⟩
abbrev S128x8 : Shape := ⟨2, ![128, 8]⟩
abbrev S1x16384 : Shape := ⟨2, ![1, 16384]⟩
abbrev S3x16384 : Shape := ⟨2, ![3, 16384]⟩
abbrev S4x16384 : Shape := ⟨2, ![4, 16384]⟩
abbrev S16384x64 : Shape := ⟨2, ![16384, 64]⟩
abbrev S128x16 : Shape := ⟨2, ![128, 16]⟩
abbrev S4096x64 : Shape := ⟨2, ![4096, 64]⟩
abbrev S4x16 : Shape := ⟨2, ![4, 16]⟩
abbrev S16x16384 : Shape := ⟨2, ![16, 16384]⟩
abbrev S4x4096 : Shape := ⟨2, ![4, 4096]⟩
abbrev S1x4096 : Shape := ⟨2, ![1, 4096]⟩
abbrev S16x4096 : Shape := ⟨2, ![16, 4096]⟩
abbrev S1x16 : Shape := ⟨2, ![1, 16]⟩
abbrev S3x16 : Shape := ⟨2, ![3, 16]⟩
abbrev S5x16 : Shape := ⟨2, ![5, 16]⟩
abbrev S5x4096 : Shape := ⟨2, ![5, 4096]⟩
abbrev S64x1 : Shape := ⟨2, ![64, 1]⟩
abbrev S64x4096 : Shape := ⟨2, ![64, 4096]⟩
abbrev S128x4096 : Shape := ⟨2, ![128, 4096]⟩
abbrev S16x128 : Shape := ⟨2, ![16, 128]⟩
abbrev S3x128 : Shape := ⟨2, ![3, 128]⟩
abbrev S1x128 : Shape := ⟨2, ![1, 128]⟩

abbrev nBuf : Space → Nat
  | .hbm => 95
  | .vmem => 8
  | .smem => 0
  | _ => 0

abbrev bufTy : (tb : Table) → Fin (tcTables nBuf tb) → BufTy
  | .hbm, ⟨0, _⟩ => ⟨S16384x3, .f32⟩
  | .hbm, ⟨1, _⟩ => ⟨S16384, .i32⟩
  | .hbm, ⟨2, _⟩ => ⟨S16, .i32⟩
  | .hbm, ⟨3, _⟩ => ⟨S16x8, .i32⟩
  | .hbm, ⟨4, _⟩ => ⟨S128, .i32⟩
  | .hbm, ⟨5, _⟩ => ⟨S_, .f32⟩
  | .hbm, ⟨6, _⟩ => ⟨S128x1, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S_, .f32⟩
  | .hbm, ⟨18, _⟩ => ⟨S128x1, .f32⟩
  | .hbm, ⟨19, _⟩ => ⟨S128x1, .f32⟩
  | .hbm, ⟨20, _⟩ => ⟨S128x1, .i32⟩
  | .hbm, ⟨21, _⟩ => ⟨S_, .i32⟩
  | .hbm, ⟨22, _⟩ => ⟨S128x1, .i32⟩
  | .hbm, ⟨23, _⟩ => ⟨S128x1, .i32⟩
  | .hbm, ⟨24, _⟩ => ⟨S128x1, .f32⟩
  | .hbm, ⟨25, _⟩ => ⟨S_, .i32⟩
  | .hbm, ⟨26, _⟩ => ⟨S128x1, .i32⟩
  | .hbm, ⟨27, _⟩ => ⟨S128x1, .i32⟩
  | .hbm, ⟨28, _⟩ => ⟨S128x1, .f32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x1, .f32⟩
  | .hbm, ⟨33, _⟩ => ⟨S_, .f32⟩
  | .hbm, ⟨34, _⟩ => ⟨S128x1, .f32⟩
  | .hbm, ⟨35, _⟩ => ⟨S128x1, .f32⟩
  | .hbm, ⟨36, _⟩ => ⟨S_, .f32⟩
  | .hbm, ⟨37, _⟩ => ⟨S128x1, .f32⟩
  | .hbm, ⟨38, _⟩ => ⟨S128x1, .f32⟩
  | .hbm, ⟨39, _⟩ => ⟨S_, .f32⟩
  | .hbm, ⟨40, _⟩ => ⟨S128x1, .f32⟩
  | .hbm, ⟨41, _⟩ => ⟨S128x1, .f32⟩
  | .hbm, ⟨42, _⟩ => ⟨S128x1, .f32⟩
  | .hbm, ⟨43, _⟩ => ⟨S_, .f32⟩
  | .hbm, ⟨44, _⟩ => ⟨S128x1, .f32⟩
  | .hbm, ⟨45, _⟩ => ⟨S128x1, .f32⟩
  | .hbm, ⟨46, _⟩ => ⟨S_, .f32⟩
  | .hbm, ⟨47, _⟩ => ⟨S128x1, .f32⟩
  | .hbm, ⟨48, _⟩ => ⟨S128x1, .f32⟩
  | .hbm, ⟨49, _⟩ => ⟨S128x1, .f32⟩
  | .hbm, ⟨50, _⟩ => ⟨S128x1, .f32⟩
  | .hbm, ⟨51, _⟩ => ⟨S_, .i32⟩
  | .hbm, ⟨52, _⟩ => ⟨S128x1, .i32⟩
  | .hbm, ⟨53, _⟩ => ⟨S128x1, .i1⟩
  | .hbm, ⟨54, _⟩ => ⟨S_, .f32⟩
  | .hbm, ⟨55, _⟩ => ⟨S128x1, .f32⟩
  | .hbm, ⟨56, _⟩ => ⟨S128x1, .f32⟩
  | .hbm, ⟨57, _⟩ => ⟨S_, .f32⟩
  | .hbm, ⟨58, _⟩ => ⟨S128x1, .f32⟩
  | .hbm, ⟨59, _⟩ => ⟨S128x1, .f32⟩
  | .hbm, ⟨60, _⟩ => ⟨S128x1, .f32⟩
  | .hbm, ⟨61, _⟩ => ⟨S_, .f32⟩
  | .hbm, ⟨62, _⟩ => ⟨S128x1, .f32⟩
  | .hbm, ⟨63, _⟩ => ⟨S128x1, .f32⟩
  | .hbm, ⟨64, _⟩ => ⟨S128x1, .f32⟩
  | .hbm, ⟨65, _⟩ => ⟨S128x1, .f32⟩
  | .hbm, ⟨66, _⟩ => ⟨S_, .f32⟩
  | .hbm, ⟨67, _⟩ => ⟨S128x1, .f32⟩
  | .hbm, ⟨68, _⟩ => ⟨S128x1, .f32⟩
  | .hbm, ⟨69, _⟩ => ⟨S_, .f32⟩
  | .hbm, ⟨70, _⟩ => ⟨S128x1, .f32⟩
  | .hbm, ⟨71, _⟩ => ⟨S128x1, .f32⟩
  | .hbm, ⟨72, _⟩ => ⟨S128x1, .f32⟩
  | .hbm, ⟨73, _⟩ => ⟨S128x1, .f32⟩
  | .hbm, ⟨74, _⟩ => ⟨S_, .f32⟩
  | .hbm, ⟨75, _⟩ => ⟨S128x1, .f32⟩
  | .hbm, ⟨76, _⟩ => ⟨S128x1, .f32⟩
  | .hbm, ⟨77, _⟩ => ⟨S_, .f32⟩
  | .hbm, ⟨78, _⟩ => ⟨S128x1, .f32⟩
  | .hbm, ⟨79, _⟩ => ⟨S128x1, .f32⟩
  | .hbm, ⟨80, _⟩ => ⟨S_, .f32⟩
  | .hbm, ⟨81, _⟩ => ⟨S128x1, .f32⟩
  | .hbm, ⟨82, _⟩ => ⟨S128x1, .f32⟩
  | .hbm, ⟨83, _⟩ => ⟨S_, .f32⟩
  | .hbm, ⟨84, _⟩ => ⟨S128x3, .f32⟩
  | .hbm, ⟨85, _⟩ => ⟨S128x8, .f32⟩
  | .hbm, ⟨86, _⟩ => ⟨S16384, .f32⟩
  | .hbm, ⟨87, _⟩ => ⟨S1x16384, .f32⟩
  | .hbm, ⟨88, _⟩ => ⟨S3x16384, .f32⟩
  | .hbm, ⟨89, _⟩ => ⟨S_, .f32⟩
  | .hbm, ⟨90, _⟩ => ⟨S1x16384, .f32⟩
  | .hbm, ⟨91, _⟩ => ⟨S4x16384, .f32⟩
  | .hbm, ⟨92, _⟩ => ⟨S16384x64, .f32⟩
  | .hbm, ⟨93, _⟩ => ⟨S128x3, .f32⟩
  | .hbm, ⟨94, _⟩ => ⟨S128x16, .f32⟩
  | .local _ .vmem, ⟨0, _⟩ => ⟨S128x8, .f32⟩
  | .local _ .vmem, ⟨1, _⟩ => ⟨S4x16384, .f32⟩
  | .local _ .vmem, ⟨2, _⟩ => ⟨S1x16384, .f32⟩
  | .local _ .vmem, ⟨3, _⟩ => ⟨S4096x64, .f32⟩
  | .local _ .vmem, ⟨4, _⟩ => ⟨S4096x64, .f32⟩
  | .local _ .vmem, ⟨5, _⟩ => ⟨S128x3, .f32⟩
  | .local _ .vmem, ⟨6, _⟩ => ⟨S128x16, .f32⟩
  | .local _ .vmem, ⟨7, _⟩ => ⟨S4x16, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_9 : Ref sig .tc := ⟨.hbm, 43, rfl⟩
abbrev main_v30 : Ref sig .tc := ⟨.hbm, 44, rfl⟩
abbrev main_v31 : Ref sig .tc := ⟨.hbm, 45, rfl⟩
abbrev main_cst_10 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_11 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_15 : Ref sig .tc := ⟨.hbm, 66, rfl⟩
abbrev main_v47 : Ref sig .tc := ⟨.hbm, 67, rfl⟩
abbrev main_v48 : Ref sig .tc := ⟨.hbm, 68, rfl⟩
abbrev main_cst_16 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_17 : Ref sig .tc := ⟨.hbm, 74, rfl⟩
abbrev main_v53 : Ref sig .tc := ⟨.hbm, 75, rfl⟩
abbrev main_v54 : Ref sig .tc := ⟨.hbm, 76, rfl⟩
abbrev main_cst_18 : Ref sig .tc := ⟨.hbm, 77, rfl⟩
abbrev main_v55 : Ref sig .tc := ⟨.hbm, 78, rfl⟩
abbrev main_v56 : Ref sig .tc := ⟨.hbm, 79, rfl⟩
abbrev main_cst_19 : Ref sig .tc := ⟨.hbm, 80, rfl⟩
abbrev main_v57 : Ref sig .tc := ⟨.hbm, 81, rfl⟩
abbrev main_v58 : Ref sig .tc := ⟨.hbm, 82, rfl⟩
abbrev main_cst_20 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_21 : Ref sig .tc := ⟨.hbm, 89, rfl⟩
abbrev main_v64 : Ref sig .tc := ⟨.hbm, 90, rfl⟩
abbrev main_v65 : Ref sig .tc := ⟨.hbm, 91, rfl⟩
abbrev main_v66_0 : Ref sig .tc := ⟨.hbm, 92, rfl⟩
abbrev main_v66_1 : Ref sig .tc := ⟨.hbm, 93, rfl⟩
abbrev main_v66_2 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off1 (i : grid0.Coords) : Fin 2 → Nat :=
  let c0 : Index := 0#32
  let arg0 : BitVec 32 := BitVec.ofNat 32 (i 0).val
  let c1_i32 : BitVec 32 := 1#32
  let v6 : BitVec 32 := Scalar.subi arg0 c1_i32
  let c4096_i32 : BitVec 32 := 4096#32
  let v7 : BitVec 32 := Scalar.muli v6 c4096_i32
  let v8 : Index := Scalar.indexCast v7
  ![0, v8.toNat]
def k0_off2 (i : grid0.Coords) : Fin 2 → Nat :=
  let c0_5 : Index := 0#32
  let arg0 : BitVec 32 := BitVec.ofNat 32 (i 0).val
  let c1_i32_3 : BitVec 32 := 1#32
  let v11 : BitVec 32 := Scalar.subi arg0 c1_i32_3
  let c4096_i32_4 : BitVec 32 := 4096#32
  let v12 : BitVec 32 := Scalar.muli v11 c4096_i32_4
  let v13 : Index := Scalar.indexCast v12
  ![0, v13.toNat]
def k0_cond3 (i : grid0.Coords) : BitVec 1 :=
  let arg0 : BitVec 32 := BitVec.ofNat 32 (i 0).val
  let c1_i32_28 : BitVec 32 := 1#32
  let v110 : BitVec 1 := Scalar.cmpi .eq arg0 c1_i32_28
  let v111 : BitVec 32 := Scalar.extui v110
  let c0_i32_29 : BitVec 32 := 0#32
  let v112 : BitVec 1 := Scalar.cmpi .ne v111 c0_i32_29
  v112

def k0_cond4 (i : grid0.Coords) : BitVec 1 :=
  let arg0 : BitVec 32 := BitVec.ofNat 32 (i 0).val
  let c4_i32 : BitVec 32 := 4#32
  let v117 : BitVec 1 := Scalar.cmpi .eq arg0 c4_i32
  let v118 : BitVec 32 := Scalar.extui v117
  let c0_i32_34 : BitVec 32 := 0#32
  let v119 : BitVec 1 := Scalar.cmpi .ne v118 c0_i32_34
  v119

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "a16" => some (((64 / 225) * (Real.log 2)⁻¹ : ℝ) : EReal)
  | "a64" => some (((256 / 25) * (Real.log 2)⁻¹ : ℝ) : EReal)
  | _ => none
-- ==== ReferenceIdeal.lean ====
abbrev S16384x3 : Shape := ⟨2, ![16384, 3]⟩
abbrev S16384 : Shape := ⟨1, ![16384]⟩
abbrev S_ : Shape := ⟨0, ![]⟩
abbrev S16 : Shape := ⟨1, ![16]⟩
abbrev S16384x1 : Shape := ⟨2, ![16384, 1]⟩
abbrev S16x3 : Shape := ⟨2, ![16, 3]⟩
abbrev S16x1 : Shape := ⟨2, ![16, 1]⟩
abbrev S16x8 : Shape := ⟨2, ![16, 8]⟩
abbrev S128 : Shape := ⟨1, ![128]⟩
abbrev S7 : Shape := ⟨1, ![7]⟩
abbrev S1 : Shape := ⟨1, ![1]⟩
abbrev S8 : Shape := ⟨1, ![8]⟩
abbrev S128x1 : Shape := ⟨2, ![128, 1]⟩
abbrev S128x3 : Shape := ⟨2, ![128, 3]⟩
abbrev S63 : Shape := ⟨1, ![63]⟩
abbrev S64 : Shape := ⟨1, ![64]⟩
abbrev S1x64 : Shape := ⟨2, ![1, 64]⟩
abbrev S16384x64 : Shape := ⟨2, ![16384, 64]⟩
abbrev S128x1x3 : Shape := ⟨3, ![128, 1, 3]⟩
abbrev S1x16384x3 : Shape := ⟨3, ![1, 16384, 3]⟩
abbrev S128x16384x3 : Shape := ⟨3, ![128, 16384, 3]⟩
abbrev S128x16384 : Shape := ⟨2, ![128, 16384]⟩
abbrev S1x16384 : Shape := ⟨2, ![1, 16384]⟩
abbrev S15 : Shape := ⟨1, ![15]⟩
abbrev S128x16384x1 : Shape := ⟨3, ![128, 16384, 1]⟩
abbrev S1x1x16 : Shape := ⟨3, ![1, 1, 16]⟩
abbrev S128x16384x16 : Shape := ⟨3, ![128, 16384, 16]⟩
abbrev S128x16 : Shape := ⟨2, ![128, 16]⟩
abbrev S16x8x16 : Shape := ⟨3, ![16, 8, 16]⟩
abbrev S8x16x16 : Shape := ⟨3, ![8, 16, 16]⟩

abbrev nBuf : Space → Nat
  | .hbm => 201
  | .vmem => 0
  | .smem => 0
  | _ => 0

abbrev hbmTy0_0 (i : Nat) : BufTy := match i % 128 with
  | 0 => ⟨S16384x3, .f32⟩
  | 1 => ⟨S16384, .i32⟩
  | 2 => ⟨S_, .f32⟩
  | 3 => ⟨S16384, .f32⟩
  | 4 => ⟨S_, .f32⟩
  | 5 => ⟨S16, .f32⟩
  | 6 => ⟨S16384x1, .i32⟩
  | 7 => ⟨S16, .f32⟩
  | 8 => ⟨S_, .f32⟩
  | 9 => ⟨S16x3, .f32⟩
  | 10 => ⟨S16384x1, .i32⟩
  | 11 => ⟨S16x3, .f32⟩
  | 12 => ⟨S_, .f32⟩
  | 13 => ⟨S16, .f32⟩
  | 14 => ⟨S16, .f32⟩
  | 15 => ⟨S16x1, .f32⟩
  | 16 => ⟨S16x3, .f32⟩
  | 17 => ⟨S16x3, .f32⟩
  | 18 => ⟨S16, .i32⟩
  | 19 => ⟨S16x8, .i32⟩
  | 20 => ⟨S128, .i32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S7, .f32⟩
  | 29 => ⟨S_, .f32⟩
  | 30 => ⟨S7, .f32⟩
  | 31 => ⟨S7, .f32⟩
  | 32 => ⟨S1, .f32⟩
  | 33 => ⟨S_, .f32⟩
  | 34 => ⟨S7, .f32⟩
  | 35 => ⟨S7, .f32⟩
  | 36 => ⟨S7, .f32⟩
  | 37 => ⟨S7, .f32⟩
  | 38 => ⟨S1, .f32⟩
  | 39 => ⟨S7, .f32⟩
  | 40 => ⟨S7, .f32⟩
  | 41 => ⟨S7, .f32⟩
  | 42 => ⟨S1, .f32⟩
  | 43 => ⟨S8, .f32⟩
  | 44 => ⟨S_, .i32⟩
  | 45 => ⟨S128, .i32⟩
  | 46 => ⟨S128, .i1⟩
  | 47 => ⟨S_, .i32⟩
  | 48 => ⟨S128, .i32⟩
  | 49 => ⟨S128, .i32⟩
  | 50 => ⟨S128, .i32⟩
  | 51 => ⟨S128x1, .i32⟩
  | 52 => ⟨S128x3, .f32⟩
  | 53 => ⟨S128, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S128, .i32⟩
  | 61 => ⟨S128, .i32⟩
  | 62 => ⟨S_, .i32⟩
  | 63 => ⟨S128, .i32⟩
  | 64 => ⟨S128, .i1⟩
  | 65 => ⟨S_, .i32⟩
  | 66 => ⟨S128, .i32⟩
  | 67 => ⟨S128, .i1⟩
  | 68 => ⟨S_, .i32⟩
  | 69 => ⟨S_, .i1⟩
  | 70 => ⟨S128, .i1⟩
  | 71 => ⟨S128, .i1⟩
  | 72 => ⟨S128, .i1⟩
  | 73 => ⟨S128, .i32⟩
  | 74 => ⟨S128, .i32⟩
  | 75 => ⟨S128, .i32⟩
  | 76 => ⟨S_, .i32⟩
  | 77 => ⟨S128, .i32⟩
  | 78 => ⟨S128, .i1⟩
  | 79 => ⟨S_, .i32⟩
  | 80 => ⟨S128, .i32⟩
  | 81 => ⟨S128, .i32⟩
  | 82 => ⟨S128, .i32⟩
  | 83 => ⟨S128x1, .i32⟩
  | 84 => ⟨S128, .f32⟩
  | 85 => ⟨S128x1, .f32⟩
  | 86 => ⟨S128x3, .f32⟩
  | 87 => ⟨S128x3, .f32⟩
  | 88 => ⟨S_, .i32⟩
  | 89 => ⟨S16384, .i32⟩
  | 90 => ⟨S16384, .i1⟩
  | 91 => ⟨S_, .i32⟩
  | 92 => ⟨S16384, .i32⟩
  | 93 => ⟨S16384, .i32⟩
  | 94 => ⟨S16384, .i32⟩
  | 95 => ⟨S16384x1, .i32⟩
  | 96 => ⟨S16384x3, .f32⟩
  | 97 => ⟨S16384x3, .f32⟩
  | 98 => ⟨S16384x3, .f32⟩
  | 99 => ⟨S_, .f32⟩
  | 100 => ⟨S16384, .f32⟩
  | 101 => ⟨S16384, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S63, .f32⟩
  | 110 => ⟨S_, .f32⟩
  | 111 => ⟨S63, .f32⟩
  | 112 => ⟨S63, .f32⟩
  | 113 => ⟨S1, .f32⟩
  | 114 => ⟨S_, .f32⟩
  | 115 => ⟨S63, .f32⟩
  | 116 => ⟨S63, .f32⟩
  | 117 => ⟨S63, .f32⟩
  | 118 => ⟨S63, .f32⟩
  | 119 => ⟨S1, .f32⟩
  | 120 => ⟨S63, .f32⟩
  | 121 => ⟨S63, .f32⟩
  | 122 => ⟨S63, .f32⟩
  | 123 => ⟨S1, .f32⟩
  | 124 => ⟨S64, .f32⟩
  | 125 => ⟨S16384x1, .f32⟩
  | 126 => ⟨S1x64, .f32⟩
  | 127 => ⟨S16384x64, .f32⟩
  | _ => ⟨S16384x3, .f32⟩

abbrev hbmTy0_1 (i : Nat) : BufTy := match i % 128 with
  | 0 => ⟨S16384x64, .f32⟩
  | 1 => ⟨S16384x64, .f32⟩
  | 2 => ⟨S_, .f32⟩
  | 3 => ⟨S16384x64, .f32⟩
  | 4 => ⟨S16384x64, .f32⟩
  | 5 => ⟨S16384x64, .f32⟩
  | 6 => ⟨S16384x64, .f32⟩
  | 7 => ⟨S16384x64, .f32⟩
  | 8 => ⟨S128x1x3, .f32⟩
  | 9 => ⟨S1x16384x3, .f32⟩
  | 10 => ⟨S128x16384x3, .f32⟩
  | 11 => ⟨S128x16384x3, .f32⟩
  | 12 => ⟨S128x16384x3, .f32⟩
  | 13 => ⟨S128x16384x3, .f32⟩
  | 14 => ⟨S_, .f32⟩
  | 15 => ⟨S128x16384, .f32⟩
  | 16 => ⟨S128x16384, .f32⟩
  | 17 => ⟨S128x1, .i32⟩
  | 18 => ⟨S1x16384, .i32⟩
  | 19 => ⟨S128x16384, .i32⟩
  | 20 => ⟨S128x16384, .i32⟩
  | 21 => ⟨S128x16384, .i1⟩
  | 22 => ⟨S128x16384, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S15, .f32⟩
  | 31 => ⟨S_, .f32⟩
  | 32 => ⟨S15, .f32⟩
  | 33 => ⟨S15, .f32⟩
  | 34 => ⟨S1, .f32⟩
  | 35 => ⟨S_, .f32⟩
  | 36 => ⟨S15, .f32⟩
  | 37 => ⟨S15, .f32⟩
  | 38 => ⟨S15, .f32⟩
  | 39 => ⟨S15, .f32⟩
  | 40 => ⟨S1, .f32⟩
  | 41 => ⟨S15, .f32⟩
  | 42 => ⟨S15, .f32⟩
  | 43 => ⟨S15, .f32⟩
  | 44 => ⟨S1, .f32⟩
  | 45 => ⟨S16, .f32⟩
  | 46 => ⟨S128x16384x1, .f32⟩
  | 47 => ⟨S1x1x16, .f32⟩
  | 48 => ⟨S128x16384x16, .f32⟩
  | 49 => ⟨S128x16384x16, .f32⟩
  | 50 => ⟨S128x16384x16, .f32⟩
  | 51 => ⟨S_, .f32⟩
  | 52 => ⟨S128x16384x16, .f32⟩
  | 53 => ⟨S128x16384x16, .f32⟩
  | 54 => ⟨S128x16384x16, .f32⟩
  | 55 => ⟨S128x16384x16, .f32⟩
  | 56 => ⟨S128x16384x16, .f32⟩
  | 57 => ⟨S_, .f32⟩
  | 58 => ⟨S128, .f32⟩
  | 59 => ⟨S_, .f32⟩
  | 60 => ⟨S128, .f32⟩
  | 61 => ⟨S128, .f32⟩
  | 62 => ⟨S128x1, .f32⟩
  | 63 => ⟨S128x16384x1, .f32⟩
  | 64 => ⟨S128x16384x16, .f32⟩
  | 65 => ⟨S128x16384x16, .f32⟩
  | 66 => ⟨S_, .f32⟩
  | 67 => ⟨S128x16, .f32⟩
  | 68 => ⟨S128x16, .f32⟩
  | 69 => ⟨S128x16, .f32⟩
  | 70 => ⟨S16x8x16, .f32⟩
  | 71 => ⟨S8x16x16, .f32⟩
  | 72 => ⟨S128x16, .f32⟩
  | _ => ⟨S16384x3, .f32⟩

abbrev hbmTy (i : Nat) : BufTy := match i / 128 with
  | 0 => hbmTy0_0 i
  | 1 => hbmTy0_1 i
  | _ => ⟨S16384x3, .f32⟩

abbrev bufTy : (tb : Table) → Fin (tcTables nBuf tb) → BufTy
  | .hbm, ⟨i, _⟩ => hbmTy i
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_cst : Ref sig .tc := ⟨.hbm, 26, rfl⟩
abbrev main_call0_v3 : Ref sig .tc := ⟨.hbm, 27, rfl⟩
abbrev main_call0_v4 : Ref sig .tc := ⟨.hbm, 28, rfl⟩
abbrev main_call0_cst_0 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_v15 : Ref sig .tc := ⟨.hbm, 41, rfl⟩
abbrev main_call0_v16 : Ref sig .tc := ⟨.hbm, 42, rfl⟩
abbrev main_v15 : Ref sig .tc := ⟨.hbm, 43, rfl⟩
abbrev main_c : Ref sig .tc := ⟨.hbm, 44, rfl⟩
abbrev main_v16 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_6 : Ref sig .tc := ⟨.hbm, 54, rfl⟩
abbrev main_call1_v0 : Ref sig .tc := ⟨.hbm, 55, rfl⟩
abbrev main_call1_c : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_c_1 : Ref sig .tc := ⟨.hbm, 62, rfl⟩
abbrev main_call1_v5 : Ref sig .tc := ⟨.hbm, 63, rfl⟩
abbrev main_call1_v6 : Ref sig .tc := ⟨.hbm, 64, rfl⟩
abbrev main_call1_c_2 : Ref sig .tc := ⟨.hbm, 65, rfl⟩
abbrev main_call1_v7 : Ref sig .tc := ⟨.hbm, 66, rfl⟩
abbrev main_call1_v8 : Ref sig .tc := ⟨.hbm, 67, rfl⟩
abbrev main_call1_c_3 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_v24 : Ref sig .tc := ⟨.hbm, 75, rfl⟩
abbrev main_c_7 : Ref sig .tc := ⟨.hbm, 76, rfl⟩
abbrev main_v25 : Ref sig .tc := ⟨.hbm, 77, rfl⟩
abbrev main_v26 : Ref sig .tc := ⟨.hbm, 78, rfl⟩
abbrev main_c_8 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_c_9 : Ref sig .tc := ⟨.hbm, 88, rfl⟩
abbrev main_v35 : Ref sig .tc := ⟨.hbm, 89, rfl⟩
abbrev main_v36 : Ref sig .tc := ⟨.hbm, 90, rfl⟩
abbrev main_c_10 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_call2_v0 : Ref sig .tc := ⟨.hbm, 98, rfl⟩
abbrev main_call2_cst : Ref sig .tc := ⟨.hbm, 99, rfl⟩
abbrev main_call2_v1 : Ref sig .tc := ⟨.hbm, 100, rfl⟩
abbrev main_v43 : Ref sig .tc := ⟨.hbm, 101, rfl⟩
abbrev main_cst_11 : Ref sig .tc := ⟨.hbm, 102, rfl⟩
abbrev main_cst_12 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_cst : Ref sig .tc := ⟨.hbm, 107, rfl⟩
abbrev main_call3_v3 : Ref sig .tc := ⟨.hbm, 108, rfl⟩
abbrev main_call3_v4 : Ref sig .tc := ⟨.hbm, 109, rfl⟩
abbrev main_call3_cst_0 : Ref sig .tc := ⟨.hbm, 110, rfl⟩
abbrev main_call3_v5 : Ref sig .tc := ⟨.hbm, 111, rfl⟩
abbrev main_call3_v6 : Ref sig .tc := ⟨.hbm, 112, rfl⟩
abbrev main_call3_v7 : Ref sig .tc := ⟨.hbm, 113, rfl⟩
abbrev main_call3_cst_1 : Ref sig .tc := ⟨.hbm, 114, rfl⟩
abbrev main_call3_v8 : Ref sig .tc := ⟨.hbm, 115, rfl⟩
abbrev main_call3_v9 : Ref sig .tc := ⟨.hbm, 116, rfl⟩
abbrev main_call3_v10 : Ref sig .tc := ⟨.hbm, 117, rfl⟩
abbrev main_call3_v11 : Ref sig .tc := ⟨.hbm, 118, rfl⟩
abbrev main_call3_v12 : Ref sig .tc := ⟨.hbm, 119, rfl⟩
abbrev main_call3_v13 : Ref sig .tc := ⟨.hbm, 120, rfl⟩
abbrev main_call3_v14 : Ref sig .tc := ⟨.hbm, 121, rfl⟩
abbrev main_call3_v15 : Ref sig .tc := ⟨.hbm, 122, rfl⟩
abbrev main_call3_v16 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_cst_13 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_call4_v0 : Ref sig .tc := ⟨.hbm, 141, rfl⟩
abbrev main_call4_cst : Ref sig .tc := ⟨.hbm, 142, rfl⟩
abbrev main_call4_v1 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_cst_14 : Ref sig .tc := ⟨.hbm, 151, rfl⟩
abbrev main_cst_15 : Ref sig .tc := ⟨.hbm, 152, rfl⟩
abbrev main_call5_v0 : Ref sig .tc := ⟨.hbm, 153, rfl⟩
abbrev main_call5_v1 : Ref sig .tc := ⟨.hbm, 154, rfl⟩
abbrev main_call5_v2 : Ref sig .tc := ⟨.hbm, 155, rfl⟩
abbrev main_call5_cst : Ref sig .tc := ⟨.hbm, 156, rfl⟩
abbrev main_call5_v3 : Ref sig .tc := ⟨.hbm, 157, rfl⟩
abbrev main_call5_v4 : Ref sig .tc := ⟨.hbm, 158, rfl⟩
abbrev main_call5_cst_0 : Ref sig .tc := ⟨.hbm, 159, rfl⟩
abbrev main_call5_v5 : Ref sig .tc := ⟨.hbm, 160, rfl⟩
abbrev main_call5_v6 : Ref sig .tc := ⟨.hbm, 161, rfl⟩
abbrev main_call5_v7 : Ref sig .tc := ⟨.hbm, 162, rfl⟩
abbrev main_call5_cst_1 : Ref sig .tc := ⟨.hbm, 163, rfl⟩
abbrev main_call5_v8 : Ref sig .tc := ⟨.hbm, 164, rfl⟩
abbrev main_call5_v9 : Ref sig .tc := ⟨.hbm, 165, rfl⟩
abbrev main_call5_v10 : Ref sig .tc := ⟨.hbm, 166, rfl⟩
abbrev main_call5_v11 : Ref sig .tc := ⟨.hbm, 167, rfl⟩
abbrev main_call5_v12 : Ref sig .tc := ⟨.hbm, 168, rfl⟩
abbrev main_call5_v13 : Ref sig .tc := ⟨.hbm, 169, rfl⟩
abbrev main_call5_v14 : Ref sig .tc := ⟨.hbm, 170, rfl⟩
abbrev main_call5_v15 : Ref sig .tc := ⟨.hbm, 171, rfl⟩
abbrev main_call5_v16 : Ref sig .tc := ⟨.hbm, 172, rfl⟩
abbrev main_v67 : Ref sig .tc := ⟨.hbm, 173, rfl⟩
abbrev main_v68 : Ref sig .tc := ⟨.hbm, 174, rfl⟩
abbrev main_v69 : Ref sig .tc := ⟨.hbm, 175, rfl⟩
abbrev main_v70 : Ref sig .tc := ⟨.hbm, 176, rfl⟩
abbrev main_v71 : Ref sig .tc := ⟨.hbm, 177, rfl⟩
abbrev main_v72 : Ref sig .tc := ⟨.hbm, 178, rfl⟩
abbrev main_cst_16 : Ref sig .tc := ⟨.hbm, 179, rfl⟩
abbrev main_v73 : Ref sig .tc := ⟨.hbm, 180, rfl⟩
abbrev main_v74 : Ref sig .tc := ⟨.hbm, 181, rfl⟩
abbrev main_v75 : Ref sig .tc := ⟨.hbm, 182, rfl⟩
abbrev main_v76 : Ref sig .tc := ⟨.hbm, 183, rfl⟩
abbrev main_v77 : Ref sig .tc := ⟨.hbm, 184, rfl⟩
abbrev main_cst_17 : Ref sig .tc := ⟨.hbm, 185, rfl⟩
abbrev main_v78 : Ref sig .tc := ⟨.hbm, 186, rfl⟩
abbrev main_cst_18 : Ref sig .tc := ⟨.hbm, 187, rfl⟩
abbrev main_v79 : Ref sig .tc := ⟨.hbm, 188, rfl⟩
abbrev main_v80 : Ref sig .tc := ⟨.hbm, 189, rfl⟩
abbrev main_v81 : Ref sig .tc := ⟨.hbm, 190, rfl⟩
abbrev main_v82 : Ref sig .tc := ⟨.hbm, 191, rfl⟩
abbrev main_v83 : Ref sig .tc := ⟨.hbm, 192, rfl⟩
abbrev main_v84 : Ref sig .tc := ⟨.hbm, 193, rfl⟩
abbrev main_cst_19 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_v90 : Ref sig .tc := ⟨.hbm, 200, rfl⟩

abbrev nD : Nat := 1
abbrev τ : Topo := Topo.v7x

variable {F : FTy → Type} [FloatOps F]
-- ==== Proof.Body.Values.lean ====
/- What the kernel body's stores write, named: each as a function of the values of the memory references that the
   body reads (the host table `x0`, the padded coordinates `x1`, the graph ids `x2`, the carried sums `s`). -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.TableIdle
public import Idealize.ShloMosaic.Lib.Pipeline.FrameBody
public import Idealize.ShloMosaic.Lib.Pipeline.ValueKit
public import Idealize.ShloMosaic.Lib.WordCmp

@[expose] public section

set_option maxRecDepth 16384

noncomputable section

namespace Cert.KernelIdeal.Body

open Cert.KernelIdeal Cert.KernelIdeal.Gen Idealize.ShloMosaic

variable {F : FTy → Type} [FloatOps F] [Named F]

/-- The coordinates of the 4096 nodes of point `i`, one column per node. -/
def xBlk (i : grid0.Coords) (h : k0_cond2 i = 1#1) (x1 : Vec F S4x16384 .f32) : Vec F S4x4096 .f32 :=
  View.ld x1 (Rect.unit (s := S4x16384) (k0_off1 i) S4x4096.size (k0_off1_inb i h))

/-- The graph ids of the 4096 nodes of point `i`. -/
def idBlk (i : grid0.Coords) (h : k0_cond2 i = 1#1) (x2 : Vec F S1x16384 .f32) : Vec F S1x4096 .f32 :=
  View.ld x2 (Rect.unit (s := S1x16384) (k0_off2 i) S1x4096.size (k0_off2_inb i h))

/-- Column 0 of the table, its first 64 rows: the scaled centres of the node radial basis. -/
def tab0 (x0 : Vec F S128x8 .f32) : Vec F S64x1 .f32 :=
  View.ld x0 (Rect.unit (s := S128x8) ![0, 0] S64x1.size inb_S128x8_S64x1_0_0)

/-- Column 1 of the table. -/
def tab1 (x0 : Vec F S128x8 .f32) : Vec F S128x1 .f32 :=
  View.ld x0 (Rect.unit (s := S128x8) ![0, 1] S128x1.size inb_S128x8_S128x1_0_1)

/-- Column 2 of the table. -/
def tab2 (x0 : Vec F S128x8 .f32) : Vec F S128x1 .f32 :=
  View.ld x0 (Rect.unit (s := S128x8) ![0, 2] S128x1.size inb_S128x8_S128x1_0_2)

/-- Column 3 of the table: the scaled centres of the edge radial basis. -/
def tab3 (x0 : Vec F S128x8 .f32) : Vec F S128x1 .f32 :=
  View.ld x0 (Rect.unit (s := S128x8) ![0, 3] S128x1.size inb_S128x8_S128x1_0_3)

/-- Column 4 of the table: the offset of a virtual node. -/
def tab4 (x0 : Vec F S128x8 .f32) : Vec F S128x1 .f32 :=
  View.ld x0 (Rect.unit (s := S128x8) ![0, 4] S128x1.size inb_S128x8_S128x1_0_4)

/-- The node features of point `i`'s block. -/
def nodeOut (i : grid0.Coords) (h : k0_cond2 i = 1#1) (x0 : Vec F S128x8 .f32) (x1 : Vec F S4x16384 .f32)
    (x2 : Vec F S1x16384 .f32) (s : Vec F S4x16 .f32) : Vec F S4096x64 .f32 :=
  k0_pay18 (k0_pay10 (idBlk i h x2) s) (k0_pay14 (xBlk i h x1)) (k0_pay15 (xBlk i h x1) (idBlk i h x2) s) k0_pay16
    (tab0 x0) (tab0 x0)

/-- The virtual node positions. -/
def posOut (x0 : Vec F S128x8 .f32) (s : Vec F S4x16 .f32) : Vec F S128x3 .f32 :=
  k0_pay3 (k0_pay9 s) (tab4 x0)

/-- The scaled distances of point `i`'s nodes, one row per pair of offset and basis function. -/
def distOut (i : grid0.Coords) (h : k0_cond2 i = 1#1) (x0 : Vec F S128x8 .f32) (x1 : Vec F S4x16384 .f32)
    (x2 : Vec F S1x16384 .f32) (s : Vec F S4x16 .f32) : Vec F S128x4096 .f32 :=
  k0_pay19 (k0_pay10 (idBlk i h x2) s) (k0_pay11 (xBlk i h x1)) (k0_pay12 (xBlk i h x1)) (k0_pay13 (xBlk i h x1))
    (k0_pay14 (xBlk i h x1)) (k0_pay15 (xBlk i h x1) (idBlk i h x2) s) k0_pay16 (tab1 x0) (tab2 x0)

/-- The edge sums after point `i`, from those before it. -/
def edgeOut (i : grid0.Coords) (h : k0_cond2 i = 1#1) (x0 : Vec F S128x8 .f32) (x1 : Vec F S4x16384 .f32)
    (x2 : Vec F S1x16384 .f32) (s : Vec F S4x16 .f32) (acc : Vec F S128x16 .f32) : Vec F S128x16 .f32 :=
  k0_pay4 (k0_pay7 (idBlk i h x2)) (distOut i h x0 x1 x2 s) (tab3 x0) (tab3 x0) acc

/-- The edge sums divided by the node counts. -/
def edgeMean (s : Vec F S4x16 .f32) (acc : Vec F S128x16 .f32) : Vec F S128x16 .f32 :=
  k0_pay5 (k0_pay8 s) acc

/-- Reading a view whose last store was of the whole view at offset zero gives that store's payload. -/
theorem read_store_whole {sig : RefSig} {κ : Kind} {sp : Space} {Val : EltTy → Type} {S : Shape} {e : EltTy}
    [∀ e, Nonempty (Val e)] (v : View sig κ sp S e) (f : v.ty.Contents Val) {off : Fin S.rank → ℕ}
    (inb : ∀ a, off a + S.size a ≤ S.size a) (w : S.Idx → Val e) (L : List (View.Piece Val S e)) (h : ∀ a, off a = 0) :
    v.read Val (v.writes Val f ((⟨Rect.unit off S.size inb, w⟩ : View.Piece Val S e) :: L)) = w := by
  have hc : ∀ y, y ∈ (Rect.unit off S.size inb).set := fun y => by
    rw [Rect.mem_set_unit]
    exact fun a => ⟨by rw [h a]; exact Nat.zero_le _, by rw [h a, Nat.zero_add]; exact (y a).isLt⟩
  rw [View.read_writes_of_cover_last v f v v.junk ⟨Rect.unit off S.size inb, w⟩ L [] hc, View.read_writes_junk_eq_canon,
    View.canon_cons_unit_lit inb w [] h]

end Cert.KernelIdeal.Body

end
-- ==== Proof.Body.RunA.lean ====
/- The body's run at the first grid point: the sums over the graphs. -/
module

public import proofs.«01_k».proof.Proof.Body.Values

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- On whole memory references, the body at a grid point where only the first branch is taken leaves the sums over
    the graphs in the scratch and every other buffer as it was. -/
theorem runA (c : Dev nD) (i : grid0.Coords) (arg1 : Memref sig .tc .vmem S128x8 .f32) (harg1 : arg1.IsWhole) (arg2 : Memref sig .tc .vmem S4x16384 .f32) (harg2 : arg2.IsWhole)
    (arg3 : Memref sig .tc .vmem S1x16384 .f32) (harg3 : arg3.IsWhole) (arg4 : Memref sig .tc .vmem S4096x64 .f32) (harg4 : arg4.IsWhole) (arg5 : Memref sig .tc .vmem S128x3 .f32) (harg5 : arg5.IsWhole)
    (arg6 : Memref sig .tc .vmem S128x16 .f32) (harg6 : arg6.IsWhole) (arg7 : Memref sig .tc .vmem S4x16 .f32) (harg7 : arg7.IsWhole)
    (hc0 : (Scalar.cmpi .ne (Scalar.extui (Scalar.cmpi .eq (BitVec.ofNat 32 (i 0).val) 0#32)) 0#32) = 1#1) (hc1 : ¬k0_cond2 i = 1#1)
    (x0 : Vec F S128x8 .f32) (x1 : Vec F S4x16384 .f32) (x2 : Vec F S1x16384 .f32) (xo3 : Vec F S4096x64 .f32) (xo4 : Vec F S128x3 .f32) (xo5 : Vec F S128x16 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xo4 ∗ owns (c : Thread nD τ) arg6 fullShare xo5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xo4 ∗ owns (c : Thread nD τ) arg6 fullShare xo5 ∗ owns (c : Thread nD τ) arg7 fullShare (k0_pay1 x2 x1)) -∗ K ⟨⟩))
      ⊢ wp frame (wpE (defs₀ (F := F)) Variants.none c none) E (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  · iexists _; isplitr
    swap; · iexact H6
    ipureintro
    refine (read_store_whole _ _ _ _ _ (by decide)).trans ?_
    sl_unfold_run_names
    simp (disch := decide) only [View.readAt_eq_ld, Memref.IsWhole.read_unread, View.ld_unit_lit', View.readCov_unit_lit', View.readCov_cons_unit_lit'] <;> rfl

end Cert.KernelIdeal.Body

end
-- ==== Proof.Body.RunB.lean ====
/- The body's run at the second grid point: the first block of nodes. -/
module

public import proofs.«01_k».proof.Proof.Body.RunA

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- On whole memory references, the body at a grid point where the edge sums start stores the node features, the
    virtual positions and the first edge sums, over the sums `s` that the scratch holds. -/
theorem runB (c : Dev nD) (i : grid0.Coords) (arg1 : Memref sig .tc .vmem S128x8 .f32) (harg1 : arg1.IsWhole) (arg2 : Memref sig .tc .vmem S4x16384 .f32) (harg2 : arg2.IsWhole)
    (arg3 : Memref sig .tc .vmem S1x16384 .f32) (harg3 : arg3.IsWhole) (arg4 : Memref sig .tc .vmem S4096x64 .f32) (harg4 : arg4.IsWhole) (arg5 : Memref sig .tc .vmem S128x3 .f32) (harg5 : arg5.IsWhole)
    (arg6 : Memref sig .tc .vmem S128x16 .f32) (harg6 : arg6.IsWhole) (arg7 : Memref sig .tc .vmem S4x16 .f32) (harg7 : arg7.IsWhole)
    (hc0 : ¬(Scalar.cmpi .ne (Scalar.extui (Scalar.cmpi .eq (BitVec.ofNat 32 (i 0).val) 0#32)) 0#32) = 1#1) (hc1 : k0_cond2 i = 1#1) (hc2 : k0_cond3 i = 1#1) (hc3 : ¬k0_cond4 i = 1#1)
    (x0 : Vec F S128x8 .f32) (x1 : Vec F S4x16384 .f32) (x2 : Vec F S1x16384 .f32) (s : Vec F S4x16 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare s
        ∗ (iprop(owns (c : Thread nD τ) arg1 fullShare x0 ∗ owns (c : Thread nD τ) arg2 fullShare x1 ∗ owns (c : Thread nD τ) arg3 fullShare x2 ∗ owns (c : Thread nD τ) arg4 fullShare (nodeOut i hc1 x0 x1 x2 s) ∗ owns (c : Thread nD τ) arg5 fullShare (posOut x0 s) ∗ owns (c : Thread nD τ) arg6 fullShare (edgeOut i hc1 x0 x1 x2 s k0_pay2) ∗ owns (c : Thread nD τ) arg7 fullShare s) -∗ K ⟨⟩))
      ⊢ wp frame (wpE (defs₀ (F := F)) Variants.none c none) E (cc0__fused_kernel i arg1 harg1 arg2 harg2 arg3 harg3 arg4 harg4 arg5 harg5 arg6 harg6 arg7 harg7) K := by
  simp only [cc0__fused_kernel_eq_skeleton]; unfold cc0__fused_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, Hk⟩
  obtain rfl := harg1.eq_unread hf0; obtain rfl := harg2.eq_unread hf1; obtain rfl := harg3.eq_unread hf2; obtain rfl := harg7.eq_unread hf6
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (read_store_whole _ _ _ _ _ (by decide)).trans ?_
    sl_unfold_run_names
    simp (disch := decide) only [View.readAt_eq_ld, Memref.IsWhole.read_unread, View.ld_unit_lit', View.readCov_unit_lit', View.readCov_cons_unit_lit'] <;> rfl
  isplitl [H4]
  · iexists _; isplitr
    swap; · iexact H4
    ipureintro
    refine (read_store_whole _ _ _ _ _ (by decide)).trans ?_
    sl_unfold_run_names
    simp (disch := decide) only [View.readAt_eq_ld, Memref.IsWhole.read_unread, View.ld_unit_lit', View.readCov_unit_lit', View.readCov_cons_unit_lit'] <;> rfl
  isplitl [H5]
  · iexists _; isplitr
    swap; · iexact H5
    ipureintro
    refine (read_store_whole _ _ _ _ _ (by decide)).trans ?_
    sl_unfold_run_names
    simp (disch := decide) only [View.readAt_eq_ld, Memref.IsWhole.read_unread, View.ld_unit_lit', View.readCov_unit_lit', View.readCov_cons_unit_lit'] <;> rfl
  · iexists _; isplitr; · ipureintro; exact harg7.read_unread _
    iexact H6

end Cert.KernelIdeal.Body

end
-- ==== Proof.Body.RunC.lean ====
/- The body's run at a grid point in the middle: one more block of nodes. -/
module

public import proofs.«01_k».proof.Proof.Body.RunB

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- On whole memory references, the body at a grid point in the middle stores the node features and adds to the edge
    sums; the virtual positions stay. -/
theorem runC (c : Dev nD) (i : grid0.Coords) (arg1 : Memref sig .tc .vmem S128x8 .f32) (harg1 : arg1.IsWhole) (arg2 : Memref sig .tc .vmem S4x16384 .f32) (harg2 : arg2.IsWhole)
    (arg3 : Memref sig .tc .vmem S1x16384 .f32) (harg3 : arg3.IsWhole) (arg4 : Memref sig .tc .vmem S4096x64 .f32) (harg4 : arg4.IsWhole) (arg5 : Memref sig .tc .vmem S128x3 .f32) (harg5 : arg5.IsWhole)
    (arg6 : Memref sig .tc .vmem S128x16 .f32) (harg6 : arg6.IsWhole) (arg7 : Memref sig .tc .vmem S4x16 .f32) (harg7 : arg7.IsWhole)
    (hc0 : ¬(Scalar.cmpi .ne (Scalar.extui (Scalar.cmpi .eq (BitVec.ofNat 32 (i 0).val) 0#32)) 0#32) = 1#1) (hc1 : k0_cond2 i = 1#1) (hc2 : ¬k0_cond3 i = 1#1) (hc3 : ¬k0_cond4 i = 1#1)
    (x0 : Vec F S128x8 .f32) (x1 : Vec F S4x16384 .f32) (x2 : Vec F S1x16384 .f32) (xo4 : Vec F S128x3 .f32) (xo5 : Vec F S128x16 .f32) (s : Vec F S4x16 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xo4 ∗ owns (c : Thread nD τ) arg6 fullShare xo5 ∗ owns (c : Thread nD τ) arg7 fullShare s
        ∗ (iprop(owns (c : Thread nD τ) arg1 fullShare x0 ∗ owns (c : Thread nD τ) arg2 fullShare x1 ∗ owns (c : Thread nD τ) arg3 fullShare x2 ∗ owns (c : Thread nD τ) arg4 fullShare (nodeOut i hc1 x0 x1 x2 s) ∗ owns (c : Thread nD τ) arg5 fullShare xo4 ∗ owns (c : Thread nD τ) arg6 fullShare (edgeOut i hc1 x0 x1 x2 s xo5) ∗ owns (c : Thread nD τ) arg7 fullShare s) -∗ K ⟨⟩))
      ⊢ wp frame (wpE (defs₀ (F := F)) Variants.none c none) E (cc0__fused_kernel i arg1 harg1 arg2 harg2 arg3 harg3 arg4 harg4 arg5 harg5 arg6 harg6 arg7 harg7) K := by
  simp only [cc0__fused_kernel_eq_skeleton]; unfold cc0__fused_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2; obtain rfl := harg5.eq_unread hf4; obtain rfl := harg6.eq_unread hf5; obtain rfl := harg7.eq_unread hf6
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (read_store_whole _ _ _ _ _ (by decide)).trans ?_
    sl_unfold_run_names
    simp (disch := decide) only [View.readAt_eq_ld, Memref.IsWhole.read_unread, View.ld_unit_lit', View.readCov_unit_lit', View.readCov_cons_unit_lit'] <;> rfl
  isplitl [H4]
  · iexists _; isplitr; · ipureintro; exact harg5.read_unread _
    iexact H4
  isplitl [H5]
  · iexists _; isplitr
    swap; · iexact H5
    ipureintro
    refine (read_store_whole _ _ _ _ _ (by decide)).trans ?_
    sl_unfold_run_names
    simp (disch := decide) only [View.readAt_eq_ld, Memref.IsWhole.read_unread, View.ld_unit_lit', View.readCov_unit_lit', View.readCov_cons_unit_lit'] <;> rfl
  · iexists _; isplitr; · ipureintro; exact harg7.read_unread _
    iexact H6

end Cert.KernelIdeal.Body

end
-- ==== Proof.Body.RunD.lean ====
/- The body's run at the last grid point: the last block of nodes and the division. -/
module

public import proofs.«01_k».proof.Proof.Body.RunC

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- On whole memory references, the body at a grid point at the end stores the node features, adds to the edge sums
    and divides them by the counts; the virtual positions stay. -/
theorem runD (c : Dev nD) (i : grid0.Coords) (arg1 : Memref sig .tc .vmem S128x8 .f32) (harg1 : arg1.IsWhole) (arg2 : Memref sig .tc .vmem S4x16384 .f32) (harg2 : arg2.IsWhole)
    (arg3 : Memref sig .tc .vmem S1x16384 .f32) (harg3 : arg3.IsWhole) (arg4 : Memref sig .tc .vmem S4096x64 .f32) (harg4 : arg4.IsWhole) (arg5 : Memref sig .tc .vmem S128x3 .f32) (harg5 : arg5.IsWhole)
    (arg6 : Memref sig .tc .vmem S128x16 .f32) (harg6 : arg6.IsWhole) (arg7 : Memref sig .tc .vmem S4x16 .f32) (harg7 : arg7.IsWhole)
    (hc0 : ¬(Scalar.cmpi .ne (Scalar.extui (Scalar.cmpi .eq (BitVec.ofNat 32 (i 0).val) 0#32)) 0#32) = 1#1) (hc1 : k0_cond2 i = 1#1) (hc2 : ¬k0_cond3 i = 1#1) (hc3 : k0_cond4 i = 1#1)
    (x0 : Vec F S128x8 .f32) (x1 : Vec F S4x16384 .f32) (x2 : Vec F S1x16384 .f32) (xo4 : Vec F S128x3 .f32) (xo5 : Vec F S128x16 .f32) (s : Vec F S4x16 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xo4 ∗ owns (c : Thread nD τ) arg6 fullShare xo5 ∗ owns (c : Thread nD τ) arg7 fullShare s
        ∗ (iprop(owns (c : Thread nD τ) arg1 fullShare x0 ∗ owns (c : Thread nD τ) arg2 fullShare x1 ∗ owns (c : Thread nD τ) arg3 fullShare x2 ∗ owns (c : Thread nD τ) arg4 fullShare (nodeOut i hc1 x0 x1 x2 s) ∗ owns (c : Thread nD τ) arg5 fullShare xo4 ∗ owns (c : Thread nD τ) arg6 fullShare (edgeMean s (edgeOut i hc1 x0 x1 x2 s xo5)) ∗ owns (c : Thread nD τ) arg7 fullShare s) -∗ K ⟨⟩))
      ⊢ wp frame (wpE (defs₀ (F := F)) Variants.none c none) E (cc0__fused_kernel i arg1 harg1 arg2 harg2 arg3 harg3 arg4 harg4 arg5 harg5 arg6 harg6 arg7 harg7) K := by
  simp only [cc0__fused_kernel_eq_skeleton]; unfold cc0__fused_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2; obtain rfl := harg5.eq_unread hf4; obtain rfl := harg6.eq_unread hf5; obtain rfl := harg7.eq_unread hf6
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (read_store_whole _ _ _ _ _ (by decide)).trans ?_
    sl_unfold_run_names
    simp (disch := decide) only [View.readAt_eq_ld, Memref.IsWhole.read_unread, View.ld_unit_lit', View.readCov_unit_lit', View.readCov_cons_unit_lit'] <;> rfl
  isplitl [H4]
  · iexists _; isplitr; · ipureintro; exact harg5.read_unread _
    iexact H4
  isplitl [H5]
  · iexists _; isplitr
    swap; · iexact H5
    ipureintro
    refine (read_store_whole _ _ _ _ _ (by decide)).trans ?_
    sl_unfold_run_names
    simp (disch := decide) only [View.readAt_eq_ld, Memref.IsWhole.read_unread, View.ld_unit_lit', View.readCov_unit_lit', View.readCov_cons_unit_lit'] <;> rfl
  · iexists _; isplitr; · ipureintro; exact harg7.read_unread _
    iexact H6

end Cert.KernelIdeal.Body

end
-- ==== Proof.Body.Frame.lean ====
/- The pipeline's proof data with what each output's buffer holds after every grid point, the body obligation, and the run. -/
module

public import proofs.«01_k».proof.Proof.Body.RunD
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The branch conditions and the windows over the five grid points -/

theorem cond1_iff : ∀ t : Fin cfg0.N,
    (Scalar.cmpi .ne (Scalar.extui (Scalar.cmpi .eq (BitVec.ofNat 32 ((grid0.coords t) 0).val) 0#32)) 0#32) = 1#1 ↔ t.val = 0 :=
  (by decide +kernel : ∀ t : Fin grid0.N, _ ↔ t.val = 0)

theorem cond2_iff : ∀ t : Fin cfg0.N, k0_cond2 (grid0.coords t) = 1#1 ↔ 1 ≤ t.val :=
  (by decide +kernel : ∀ t : Fin grid0.N, k0_cond2 (grid0.coords t) = 1#1 ↔ 1 ≤ t.val)

theorem cond3_iff : ∀ t : Fin cfg0.N, k0_cond3 (grid0.coords t) = 1#1 ↔ t.val = 1 :=
  (by decide +kernel : ∀ t : Fin grid0.N, k0_cond3 (grid0.coords t) = 1#1 ↔ t.val = 1)

theorem cond4_iff : ∀ t : Fin cfg0.N, k0_cond4 (grid0.coords t) = 1#1 ↔ t.val = 4 :=
  (by decide +kernel : ∀ t : Fin grid0.N, k0_cond4 (grid0.coords t) = 1#1 ↔ t.val = 4)

/-- The inputs' windows are never idle. -/
theorem live_in : ∀ t : Fin cfg0.N, cfg0.idle 0 (grid0.coords t) = false ∧ cfg0.idle 1 (grid0.coords t) = false
    ∧ cfg0.idle 2 (grid0.coords t) = false := by decide +kernel

/-- The node features and the edge sums are idle at the first point alone, the virtual positions away from the second. -/
theorem idle_out : ∀ t : Fin cfg0.N, (cfg0.idle 3 (grid0.coords t) = decide (t.val = 0))
    ∧ (cfg0.idle 4 (grid0.coords t) = decide (t.val ≠ 1)) ∧ (cfg0.idle 5 (grid0.coords t) = decide (t.val = 0)) := by decide +kernel

/-- Nothing is written back at the first point; the virtual positions and the edge sums at the last alone. -/
theorem flush_out : ∀ t : Fin cfg0.N, (t.val = 0 → (cfg0.win 3).flush t = false)
    ∧ ((cfg0.win 4).flush t = decide (t.val = 4)) ∧ ((cfg0.win 5).flush t = decide (t.val = 4)) := by decide +kernel

/-- At which points the buffers of windows 4 and 5 hold nothing stored since the last write-back. -/
def freshAt (n : ℕ) : Bool := decide (n ≤ 1 ∨ n = 5)

theorem fresh4 (t : Fin cfg0.N) : cfg0.fresh 4 t.val = freshAt t.val :=
  Pipeline.Cfg.fresh_tab cfg0 4 freshAt rfl
    (by decide +kernel : ∀ t : Fin cfg0.N,
      freshAt (t.val + 1) = ((cfg0.win 4).flush t || (cfg0.idle 4 (cfg0.grid.coords t) && freshAt t.val))) t.val (Nat.le_of_lt t.isLt)

theorem fresh5 (t : Fin cfg0.N) : cfg0.fresh 5 t.val = freshAt t.val :=
  Pipeline.Cfg.fresh_tab cfg0 5 freshAt rfl
    (by decide +kernel : ∀ t : Fin cfg0.N,
      freshAt (t.val + 1) = ((cfg0.win 5).flush t || (cfg0.idle 5 (cfg0.grid.coords t) && freshAt t.val))) t.val (Nat.le_of_lt t.isLt)

/-- Window 0's staging buffer at point `t`, and that it is a whole buffer. -/
abbrev stg0 (t : Fin cfg0.N) : Memref sig .tc .vmem S128x8 .f32 := win0_0.stage (cfg0.slots t 0)
abbrev whole0 (t : Fin cfg0.N) : (stg0 t).IsWhole := hstage0_0 ((cfg0.slots t 0).cast nbuf0_0)
/-- Window 1's staging buffer at point `t`, and that it is a whole buffer. -/
abbrev stg1 (t : Fin cfg0.N) : Memref sig .tc .vmem S4x16384 .f32 := win0_1.stage (cfg0.slots t 1)
abbrev whole1 (t : Fin cfg0.N) : (stg1 t).IsWhole := hstage0_1 ((cfg0.slots t 1).cast nbuf0_1)
/-- Window 2's staging buffer at point `t`, and that it is a whole buffer. -/
abbrev stg2 (t : Fin cfg0.N) : Memref sig .tc .vmem S1x16384 .f32 := win0_2.stage (cfg0.slots t 2)
abbrev whole2 (t : Fin cfg0.N) : (stg2 t).IsWhole := hstage0_2 ((cfg0.slots t 2).cast nbuf0_2)
/-- Window 3's staging buffer at point `t`, and that it is a whole buffer. -/
abbrev stg3 (t : Fin cfg0.N) : Memref sig .tc .vmem S4096x64 .f32 := win0_3.stage (cfg0.slots t 3)
abbrev whole3 (t : Fin cfg0.N) : (stg3 t).IsWhole := hstage0_3 ((cfg0.slots t 3).cast nbuf0_3)
/-- Window 4's staging buffer at point `t`, and that it is a whole buffer. -/
abbrev stg4 (t : Fin cfg0.N) : Memref sig .tc .vmem S128x3 .f32 := win0_4.stage (cfg0.slots t 4)
abbrev whole4 (t : Fin cfg0.N) : (stg4 t).IsWhole := hstage0_4 ((cfg0.slots t 4).cast nbuf0_4)
/-- Window 5's staging buffer at point `t`, and that it is a whole buffer. -/
abbrev stg5 (t : Fin cfg0.N) : Memref sig .tc .vmem S128x16 .f32 := win0_5.stage (cfg0.slots t 5)
abbrev whole5 (t : Fin cfg0.N) : (stg5 t).IsWhole := hstage0_5 ((cfg0.slots t 5).cast nbuf0_5)

/-- The scratch that carries the sums. -/
abbrev scr : Memref sig .tc .vmem S4x16 .f32 := Memref.whole cc0_scratch0

/-- The class invariant: the scratch at anything and the generator's register at some state. -/
theorem PhiA_eq (c : Dev nD) : (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## What the buffers hold -/

/-- The first and the second grid point. -/
def pt0 : Fin cfg0.N := ⟨0, by decide⟩
def pt1 : Fin cfg0.N := ⟨1, by decide⟩

/-- The sums over the graphs that the first point stores: rows 0 to 2 the coordinates', row 3 the counts. -/
def sums (c : Dev nD) : Vec F S4x16 .f32 := k0_pay1 (iblk m c 2 pt0) (iblk m c 1 pt0)

/-- The node features' buffer after point `t`. -/
def nodeAt (c : Dev nD) (t : Fin cfg0.N) : Vec F S4096x64 .f32 :=
  if h : k0_cond2 (grid0.coords t) = 1#1 then
    nodeOut (grid0.coords t) h (iblk m c 0 t) (iblk m c 1 t) (iblk m c 2 t) (sums m c)
  else fun _ => Scalar.ofBits .f32 0x00000000#32

/-- The virtual positions' buffer from the second point on. -/
def posAt (c : Dev nD) : Vec F S128x3 .f32 := posOut (iblk m c 0 pt1) (sums m c)

/-- The edge sums before the division after point `n`. -/
def edgeSum (c : Dev nD) : ℕ → Vec F S128x16 .f32
  | 0 => k0_pay2
  | n + 1 =>
    if hn : n + 1 < cfg0.N then
      if h : k0_cond2 (grid0.coords ⟨n + 1, hn⟩) = 1#1 then
        edgeOut (grid0.coords ⟨n + 1, hn⟩) h (iblk m c 0 ⟨n + 1, hn⟩) (iblk m c 1 ⟨n + 1, hn⟩) (iblk m c 2 ⟨n + 1, hn⟩) (sums m c)
          (edgeSum c n)
      else edgeSum c n
    else edgeSum c n

/-- The edge output's buffer after point `n`. -/
def edgeAt (c : Dev nD) (n : ℕ) : Vec F S128x16 .f32 :=
  if n = 4 then edgeMean (sums m c) (edgeSum m c n) else edgeSum m c n

/-- After a point past the first the node features' buffer holds the block's features. -/
theorem nodeAt_pos (c : Dev nD) (t : Fin cfg0.N) (h : k0_cond2 (grid0.coords t) = 1#1) :
    nodeAt m c t = nodeOut (grid0.coords t) h (iblk m c 0 t) (iblk m c 1 t) (iblk m c 2 t) (sums m c) := dif_pos h

/-- The edge sums after a point past the first: those before it and the block's. -/
theorem edgeSum_step (c : Dev nD) (t : Fin cfg0.N) (h : k0_cond2 (grid0.coords t) = 1#1) :
    edgeSum m c t.val = edgeOut (grid0.coords t) h (iblk m c 0 t) (iblk m c 1 t) (iblk m c 2 t) (sums m c)
      (edgeSum m c (t.val - 1)) := by
  obtain ⟨n, hn⟩ := t
  cases n with
  | zero => exact absurd ((cond2_iff ⟨0, hn⟩).mp h) (by simp)
  | succ n => exact (dif_pos hn).trans (dif_pos h)

/-- The region's invariant: before the first point the class's, afterwards the scratch holds the sums. -/
def inv (c : Dev nD) (n : ℕ) : sProp 𝕄 :=
  if n = 0 then Pipeline.ΦA spec0 c
  else iprop(iprop(owns (c : Thread nD τ) scr fullShare (sums m c)) ∗ (∃ r, prngReg c r))

theorem inv_zero (c : Dev nD) (n : ℕ) (h : n = 0) : inv m c n = Pipeline.ΦA spec0 c := if_pos h

theorem inv_pos (c : Dev nD) (n : ℕ) (h : n ≠ 0) :
    inv m c n = iprop(iprop(owns (c : Thread nD τ) scr fullShare (sums m c)) ∗ (∃ r, prngReg c r)) := if_neg h

/-- The proof data of the pipeline on core `c`: each input's buffer at its block, the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => nodeAt m c t
    | ⟨4, _⟩ => posAt m c
    | ⟨5, _⟩ => edgeAt m c t.val
  Φ t := inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = nodeAt m c t := by dsimp only [dats]
theorem after4 (c : Dev nD) (t : Fin cfg0.N) : (dats m 0 c).after 4 t = posAt m c := by dsimp only [dats]
theorem after5 (c : Dev nD) (t : Fin cfg0.N) : (dats m 0 c).after 5 t = edgeAt m c t.val := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- From the third point on the virtual positions' buffer holds the positions, which idle points carry. -/
theorem before4 (c : Dev nD) (t : Fin cfg0.N) (h : 2 ≤ t.val) (d) : (dats m 0 c).before 4 t d = posAt m c := by
  have hN : t.val < 5 := lt_of_lt_of_eq t.isLt (show cfg0.N = 5 from N_0)
  rw [Dat.before_out_traj _ 4 rfl (fun _ _ => rfl) (fun u _ _ _ => by rw [after4, after4]) t.val t rfl d,
    if_neg (by rw [fresh4 t]; unfold freshAt; simp; omega)]
  dsimp only [dats]

/-- From the third point on the edge output's buffer holds what the point before left. -/
theorem before5 (c : Dev nD) (t : Fin cfg0.N) (h : 2 ≤ t.val) (d) :
    (dats m 0 c).before 5 t d = edgeAt m c (t.val - 1) := by
  have hN : t.val < 5 := lt_of_lt_of_eq t.isLt (show cfg0.N = 5 from N_0)
  rw [Dat.before_out_traj _ 5 rfl (fun _ _ => rfl)
      (fun u hu hi _ => by rw [(idle_out u).2.2, decide_eq_true_eq] at hi; exact absurd hi hu) t.val t rfl d,
    if_neg (by rw [fresh5 t]; unfold freshAt; simp; omega)]
  dsimp only [dats]

/-! ## The body obligation -/

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d)))

/-- What it returns. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- A window that is not idle at a point leaves the proof data's contents. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 6400000 in
/-- The body at every grid point takes the buffers from what the data says before the point to what it says after. -/
theorem sound (c : Dev nD) (t : Fin cfg0.N) :
    pre m c t ⊢ wp frame (wpE (defs₀ (F := F)) Variants.none c none) Set.univ (bodyAt0 t) (fun _ => post m c t) := by
  have hN : t.val < 5 := lt_of_lt_of_eq t.isLt (show cfg0.N = 5 from N_0)
  unfold pre post bodyAt0
  simp only [before0, before1, before2]
  rw [show (dats m 0 c).owesAt () t.succ = (dats m 0 c).owesAt () t.castSucc from rfl]
  rw [show (dats m 0 c).Φ t.succ = inv m c (t.val + 1) from rfl, inv_pos m c _ (Nat.succ_ne_zero _)]
  rw [show (dats m 0 c).Φ t.castSucc = inv m c t.val from rfl]
  rw [leaves_live m c 0 t (live_in t).1, leaves_live m c 1 t (live_in t).2.1, leaves_live m c 2 t (live_in t).2.2, after0, after1, after2]
  by_cases h0 : t.val = 0
  · have ht : t = pt0 := Fin.ext h0
    have hc1 : ¬ k0_cond2 (grid0.coords t) = 1#1 := fun h => by have := (cond2_iff t).mp h; omega
    rw [Dat.leavesExact_idle (dats m 0 c) 3 t (by rw [(idle_out t).1]; simp [h0]) ((flush_out t).1 h0),
      Dat.leavesExact_idle (dats m 0 c) 4 t (by rw [(idle_out t).2.1]; simp [h0]) (by rw [(flush_out t).2.1]; simp [h0]),
      Dat.leavesExact_idle (dats m 0 c) 5 t (by rw [(idle_out t).2.2]; simp [h0]) (by rw [(flush_out t).2.2]; simp [h0]),
      inv_zero m c _ h0, PhiA_eq]
    have hs : sums m c = k0_pay1 (iblk m c 2 t) (iblk m c 1 t) := by rw [ht]; rfl
    rw [hs]
    iintro ⟨⟨HS, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ ((cond1_iff t).mpr h0) hc1 (iblk m c 0 t) (iblk m c 1 t) (iblk m c 2 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexists _; iexact H3
    isplitl [H4]; · iexists _; iexact H4
    iexists _; iexact H5
  · have hc0 := fun h => h0 ((cond1_iff t).mp h)
    have hc1 : k0_cond2 (grid0.coords t) = 1#1 := (cond2_iff t).mpr (Nat.one_le_iff_ne_zero.mpr h0)
    rw [leaves_live m c 3 t (by rw [(idle_out t).1]; simp [h0]), leaves_live m c 5 t (by rw [(idle_out t).2.2]; simp [h0]),
      after3, after5, inv_pos m c _ h0, nodeAt_pos m c t hc1]
    by_cases h1 : t.val = 1
    · have ht : t = pt1 := Fin.ext h1
      have hc3 : ¬ k0_cond4 (grid0.coords t) = 1#1 := fun h => by have := (cond4_iff t).mp h; omega
      rw [leaves_live m c 4 t (by rw [(idle_out t).2.1]; simp [h1]), after4]
      have hp : posAt m c = posOut (iblk m c 0 t) (sums m c) := by rw [ht]; rfl
      have he : edgeAt m c t.val = edgeOut (grid0.coords t) hc1 (iblk m c 0 t) (iblk m c 1 t) (iblk m c 2 t) (sums m c) k0_pay2 := by
        unfold edgeAt; rw [if_neg (by omega), edgeSum_step m c t hc1, h1]; rfl
      rw [hp, he]
      iintro ⟨⟨HS, Hg⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ hc0 hc1 ((cond3_iff t).mpr h1) hc3 (iblk m c 0 t) (iblk m c 1 t) (iblk m c 2 t) (sums m c) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS]; · iexact HS
      iintro ⟨H0, H1, H2, H3, H4, H5, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc2 := fun h => h1 ((cond3_iff t).mp h)
      simp only [before4 m c t (by omega), before5 m c t (by omega)]
      rw [show edgeAt m c (t.val - 1) = edgeSum m c (t.val - 1) from if_neg (by omega)]
      by_cases h4 : t.val = 4
      · have hl : (dats m 0 c).leavesExact 4 t = owns (c : Thread nD τ) (stg4 t) fullShare (posAt m c) := by
          unfold Dat.leavesExact
          rw [(idle_out t).2.1, (flush_out t).2.1, after4]; simp [h4]
        have he : edgeAt m c t.val = edgeMean (sums m c) (edgeOut (grid0.coords t) hc1 (iblk m c 0 t) (iblk m c 1 t) (iblk m c 2 t) (sums m c) (edgeSum m c (t.val - 1))) := by
          unfold edgeAt; rw [if_pos h4, edgeSum_step m c t hc1]
        rw [hl, he]
        iintro ⟨⟨HS, Hg⟩, Ho, ⟨%d0, H0⟩, ⟨%d1, H1⟩, ⟨%d2, H2⟩, ⟨%d3, H3⟩, ⟨%d4, H4⟩, ⟨%d5, H5⟩⟩
        iapply (runD c (grid0.coords t) _ _ _ _ _ _ _ _ _ _ _ _ _ _ hc0 hc1 hc2 ((cond4_iff t).mpr h4) (iblk m c 0 t) (iblk m c 1 t) (iblk m c 2 t) _ _ (sums m c) Set.univ _)
        isplitl [H0]; · iexact H0
        isplitl [H1]; · iexact H1
        isplitl [H2]; · iexact H2
        isplitl [H3]; · iexists _; iexact H3
        isplitl [H4]; · iexact H4
        isplitl [H5]; · iexact H5
        isplitl [HS]; · iexact HS
        iintro ⟨H0, H1, H2, H3, H4, H5, HS⟩
        isplitl [HS Hg]
        · isplitl [HS]
          · iexact HS
          iexact Hg
        isplitl [Ho]; · iexact Ho
        isplitl [H0]; · iexact H0
        isplitl [H1]; · iexact H1
        isplitl [H2]; · iexact H2
        isplitl [H3]; · iexact H3
        isplitl [H4]; · iexact H4
        iexact H5
      · have hc3 := fun h => h4 ((cond4_iff t).mp h)
        rw [Dat.leavesExact_idle (dats m 0 c) 4 t (by rw [(idle_out t).2.1]; simp [h1]) (by rw [(flush_out t).2.1]; simp [h4])]
        have he : edgeAt m c t.val = edgeOut (grid0.coords t) hc1 (iblk m c 0 t) (iblk m c 1 t) (iblk m c 2 t) (sums m c) (edgeSum m c (t.val - 1)) := by
          unfold edgeAt; rw [if_neg h4, edgeSum_step m c t hc1]
        rw [he]
        simp only [before4 m c t (by omega)]
        iintro ⟨⟨HS, Hg⟩, Ho, ⟨%d0, H0⟩, ⟨%d1, H1⟩, ⟨%d2, H2⟩, ⟨%d3, H3⟩, ⟨%d4, H4⟩, ⟨%d5, H5⟩⟩
        iapply (runC c (grid0.coords t) _ _ _ _ _ _ _ _ _ _ _ _ _ _ hc0 hc1 hc2 hc3 (iblk m c 0 t) (iblk m c 1 t) (iblk m c 2 t) _ _ (sums m c) Set.univ _)
        isplitl [H0]; · iexact H0
        isplitl [H1]; · iexact H1
        isplitl [H2]; · iexact H2
        isplitl [H3]; · iexists _; iexact H3
        isplitl [H4]; · iexact H4
        isplitl [H5]; · iexact H5
        isplitl [HS]; · iexact HS
        iintro ⟨H0, H1, H2, H3, H4, H5, HS⟩
        isplitl [HS Hg]
        · isplitl [HS]
          · iexact HS
          iexact Hg
        isplitl [Ho]; · iexact Ho
        isplitl [H0]; · iexact H0
        isplitl [H1]; · iexact H1
        isplitl [H2]; · iexact H2
        isplitl [H3]; · iexact H3
        isplitl [H4]; · iexists d4; iexact H4
        iexact H5

/-- The body table's row at point `t`'s slots is the body as `bodyAt0` spells it. -/
theorem row (t : Fin cfg0.N) : defs₀ (F := F) .tc cfg0.body (cfg0.bodyArgs t (cfg0.slots t)) = bodyAt0 t := by
  unfold defs₀; rw [Defs.onTc_tc]

/-- The pipeline's body obligation. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

theorem hin (c : Dev nD) : Pipeline.ΦA spec0 c ⊢ (dats m 0 c).Φ 0 := by
  rw [show (dats m 0 c).Φ 0 = inv m c 0 from rfl, inv_zero m c 0 rfl]
  try exact Idealize.SL.BI.Entails.refl _

theorem hout (c : Dev nD) : (dats m 0 c).Φ (Fin.last cfg0.N) ⊢ Pipeline.ΦA spec0 c := by
  rw [show (dats m 0 c).Φ (Fin.last cfg0.N) = inv m c cfg0.N from rfl, inv_pos m c _ (by rw [show cfg0.N = 5 from N_0]; omega), PhiA_eq]
  iintro ⟨HS0, Hg⟩
  isplitl [HS0]
  · iexists _; iexact HS0
  iexact Hg

/-! ## The run -/

set_option backward.isDefEq.respectTransparency.types false in
/-- Every execution terminates with the pipeline's arrays at what the proof data says and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

/-- The same without the semaphores. -/
theorem run_main : θ_run defs (onTc (τ := τ) (main (F := F))) (s₀ m ρ) (Pipeline.FramePost cfgs (dats m) 0 (V m)) :=
  (θ_run defs _ _).mono (fun _ h => h.1) (run_quiescent m ρ)

/-- Every execution terminates, leaves the two arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

end Cert.KernelIdeal.Body

end
-- ==== Proof.PreFacts.lean ====
/- The side conditions of the precondition's operations, and nothing else. -/
module

public import proofs.«01_k».proof.Pre_inputs_ok
public import Idealize.ShloMosaic.Lib.Decide

@[expose] public section

namespace Cert.Pre_inputs_ok

open Idealize.ShloMosaic

/-- Every side condition the precondition states holds: each relates concrete shapes. -/
theorem sideConditions : Facts where
  bcast_S_S16384x3 := by decide
  bcast_S_S16384 := by decide
  bcast_S_S16 := by decide
  bcast_S16384_S16384x1_0 := by decide
  bcast_S_S16x3 := by decide
  bcast_S16_S16x1_0 := by decide
  bcast_S16x1_S16x3_0_1 := by decide
  bcast_S16_S16x8_0 := by decide
  shapeCasts_S16x8_S128 := by decide
  bcast_S_S7 := by decide
  shapeCasts_S_S1 := by decide
  bcast_S1_S7_0 := by decide
  bcast_S_S1 := by decide
  concatenates_S7_S1_S8_d0 := by decide
  bcast_S_S128 := by decide
  bcast_S128_S128x1_0 := by decide
  bcast_S128x1_S128x3_0_1 := by decide
  bcast_S128x3_S128x1x3_0_2 := by decide
  bcast_S16384x3_S1x16384x3_1_2 := by decide
  bcast_S128x1x3_S128x16384x3_0_1_2 := by decide
  bcast_S1x16384x3_S128x16384x3_0_1_2 := by decide
  bcast_S16384_S1x16384_1 := by decide
  bcast_S128x1_S128x16384_0_1 := by decide
  bcast_S1x16384_S128x16384_0_1 := by decide
  reducesTo_S128x16384x3_S128x16384_d2 := by decide
  h_S_ := by decide
  bcast_S_S128x16384 := by decide
  scatter_S16_S16384x1_S16384_n_0_0_1_wf := by decide
  scatter_S16x3_S16384x1_S16384x3_1_0_0_1_wf := by decide
  gather_S16x3_S128x1_S128x3_1_0_n_n_0_1_13_wf := by decide
  gather_S8_S128x1_S128_n_0_n_n_0_1_1_wf := by decide

end Cert.Pre_inputs_ok

end
-- ==== Proof.Math.Coe.lean ====
/- The ideal float operations at real arguments, and the constants of the programs as reals. -/
module

public import Idealize.ShloMosaic.Lib.Pointwise
public import Idealize.ShloMosaic.Lib.IdealHost

@[expose] public section

noncomputable section

namespace Cert.Coe

open Idealize.ShloMosaic
open scoped BigOperators

/-- The quotient of two reals, the divisor not zero. -/
theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

/-- The root of a real that is not negative. -/
theorem sqrt_coe (a : ℝ) (h : 0 ≤ a) : Ideal.sqrt (a : EReal) = ((√a : ℝ) : EReal) := by
  show (if a < 0 then (⊥ : EReal) else _) = _
  rw [if_neg (not_lt.mpr h)]

/-- The reciprocal root of a positive real. -/
theorem rsqrt_coe (a : ℝ) (h : 0 < a) : Ideal.rsqrt (a : EReal) = (((√a)⁻¹ : ℝ) : EReal) := by
  show (if a < 0 then (⊥ : EReal) else if a = 0 then ⊤ else _) = _
  rw [if_neg (not_lt.mpr h.le), if_neg h.ne']

/-- The logarithm of a positive real. -/
theorem log_coe (a : ℝ) (h : 0 < a) : Ideal.log (a : EReal) = ((Real.log a : ℝ) : EReal) := by
  show (if a ≤ 0 then (⊥ : EReal) else _) = _
  rw [if_neg (not_le.mpr h)]

/-- The greater of two reals. -/
theorem max_coe (a b : ℝ) : max (a : EReal) (b : EReal) = ((max a b : ℝ) : EReal) :=
  (EReal.coe_strictMono.monotone.map_max).symm

/-- A sum of reals. -/
theorem sum_coe {ι : Type*} (s : Finset ι) (f : ι → ℝ) : ∑ n ∈ s, ((f n : ℝ) : EReal) = ((∑ n ∈ s, f n : ℝ) : EReal) := by
  classical
  refine Finset.induction_on s (by simp) fun a s ha ih => ?_
  rw [Finset.sum_insert ha, Finset.sum_insert ha, ih, EReal.coe_add]

/-- Base two's exponential of a real, in base `e`. -/
theorem exp2_coe (a : ℝ) : FloatOps.exp2 (F := Ideal) (φ := .f32) (a : EReal) = ((Real.exp (Real.log 2 * a) : ℝ) : EReal) := by
  show ((Real.rpow 2 a : ℝ) : EReal) = _
  rw [Real.rpow_eq_pow, Real.rpow_def_of_pos (by norm_num)]

/-- A small natural number read as a signed word is that number. -/
theorem sitofp_nat (n : ℕ) (h : n < 2 ^ 31) : FloatOps.sitofp (F := Ideal) .f32 (BitVec.ofNat 32 n) = (((n : ℕ) : ℝ) : EReal) := by
  show ((((BitVec.ofNat 32 n).toInt : ℤ) : ℝ) : EReal) = _
  have : (BitVec.ofNat 32 n).toInt = (n : ℤ) := by
    rw [BitVec.toInt_ofNat']; simp [Int.bmod]; omega
  rw [this]; norm_cast

/-- A comparison bit read as a number. -/
theorem sitofp_bit (p : Prop) [Decidable p] :
    FloatOps.sitofp (F := Ideal) .f32 (BitVec.setWidth 32 (BitVec.ofBool (decide p))) = ((if p then 1 else 0 : ℝ) : EReal) := by
  show ((((BitVec.setWidth 32 (BitVec.ofBool (decide p))).toInt : ℤ) : ℝ) : EReal) = _
  by_cases h : p <;> simp [h]

/-- A graph number's bit: two small naturals read as floats are equal when they are equal. -/
theorem onehot (k g : ℕ) (hk : k < 2 ^ 31) :
    FloatOps.sitofp (F := Ideal) .f32 (BitVec.setWidth 32 (BitVec.ofBool (decide
      (FloatOps.sitofp (F := Ideal) .f32 (BitVec.ofNat 32 k) = (((g : ℕ) : ℝ) : EReal)))))
      = ((if g = k then 1 else 0 : ℝ) : EReal) := by
  rw [sitofp_bit, sitofp_nat k hk]
  congr 1
  refine if_congr ?_ rfl rfl
  rw [EReal.coe_eq_coe_iff, Nat.cast_inj]; exact eq_comm

/-! ## The constants of the programs -/

theorem word_two : Ideal.ofBits .f32 0x40000000#32 = ((2 : ℝ) : EReal) := by
  simp [Ideal.ofBits, Ideal.ieee, -EReal.coe_mul, -EReal.coe_neg]; norm_num
theorem word_three : Ideal.ofBits .f32 0x40400000#32 = ((3 : ℝ) : EReal) := by
  simp [Ideal.ofBits, Ideal.ieee, -EReal.coe_mul, -EReal.coe_neg]; norm_num
theorem word_seven : Ideal.ofBits .f32 0x40E00000#32 = ((7 : ℝ) : EReal) := by
  simp [Ideal.ofBits, Ideal.ieee, -EReal.coe_mul, -EReal.coe_neg]; norm_num
theorem word_fifteen : Ideal.ofBits .f32 0x41700000#32 = ((15 : ℝ) : EReal) := by
  simp [Ideal.ofBits, Ideal.ieee, -EReal.coe_mul, -EReal.coe_neg]; norm_num
theorem word_twenty : Ideal.ofBits .f32 0x41A00000#32 = ((20 : ℝ) : EReal) := by
  simp [Ideal.ofBits, Ideal.ieee, -EReal.coe_mul, -EReal.coe_neg]; norm_num
theorem word_twentyfive : Ideal.ofBits .f32 0x41C80000#32 = ((25 : ℝ) : EReal) := by
  simp [Ideal.ofBits, Ideal.ieee, -EReal.coe_mul, -EReal.coe_neg]; norm_num
theorem word_thirty : Ideal.ofBits .f32 0x41F00000#32 = ((30 : ℝ) : EReal) := by
  simp [Ideal.ofBits, Ideal.ieee, -EReal.coe_mul, -EReal.coe_neg]; norm_num
theorem word_sixtythree : Ideal.ofBits .f32 0x427C0000#32 = ((63 : ℝ) : EReal) := by
  simp [Ideal.ofBits, Ideal.ieee, -EReal.coe_mul, -EReal.coe_neg]; norm_num
theorem word_sixtyfour : Ideal.ofBits .f32 0x42800000#32 = ((64 : ℝ) : EReal) := by
  simp [Ideal.ofBits, Ideal.ieee, -EReal.coe_mul, -EReal.coe_neg]; norm_num
theorem word_w225 : Ideal.ofBits .f32 0x43610000#32 = ((225 : ℝ) : EReal) := by
  simp [Ideal.ofBits, Ideal.ieee, -EReal.coe_mul, -EReal.coe_neg]; norm_num
theorem word_w256 : Ideal.ofBits .f32 0x43800000#32 = ((256 : ℝ) : EReal) := by
  simp [Ideal.ofBits, Ideal.ieee, -EReal.coe_mul, -EReal.coe_neg]; norm_num
theorem word_negOne : Ideal.ofBits .f32 0xBF800000#32 = ((-1 : ℝ) : EReal) := by
  simp [Ideal.ofBits, Ideal.ieee, -EReal.coe_mul, -EReal.coe_neg]; norm_num
theorem word_width64 : Ideal.ofBits .f32 0x3EA00000#32 = ((20 / 64 : ℝ) : EReal) := by
  simp [Ideal.ofBits, Ideal.ieee, -EReal.coe_mul, -EReal.coe_neg]; norm_num
theorem word_width16 : Ideal.ofBits .f32 0x3FF00000#32 = ((30 / 16 : ℝ) : EReal) := by
  simp [Ideal.ofBits, Ideal.ieee, -EReal.coe_mul, -EReal.coe_neg]; norm_num
theorem word_floor : Ideal.ofBits .f32 0x1E3CE508#32 = ((12379400 / 2 ^ 90 : ℝ) : EReal) := by
  simp [Ideal.ofBits, Ideal.ieee, -EReal.coe_mul, -EReal.coe_neg]; norm_num
theorem word_apart : Ideal.ofBits .f32 0x1EEC1E4A#32 = ((15474250 / 2 ^ 89 : ℝ) : EReal) := by
  simp [Ideal.ofBits, Ideal.ieee, -EReal.coe_mul, -EReal.coe_neg]; norm_num

end Cert.Coe

end
-- ==== Proof.Math.Spec.lean ====
/- The mathematics of the problem over the reals: node positions `X`, the graph of every node `g`; and the identities
   between it and the kernel's scaled base-two form. -/
module

public import proofs.«01_k».proof.Proof.Math.Coe

@[expose] public section

noncomputable section

namespace Cert.Spec

open scoped BigOperators

variable (X : Fin 16384 → Fin 3 → ℝ) (g : Fin 16384 → Fin 16)

/-- The number of nodes of graph `i`. -/
def cnt (i : Fin 16) : ℝ := ∑ n, if g n = i then 1 else 0

/-- The number of nodes of graph `i`, at least one. -/
def den (i : Fin 16) : ℝ := max (cnt g i) 1

/-- The sum of coordinate `a` over the nodes of graph `i`. -/
def tot (i : Fin 16) (a : Fin 3) : ℝ := ∑ n, if g n = i then X n a else 0

/-- Coordinate `a` of the centroid of graph `i`. -/
def cen (i : Fin 16) (a : Fin 3) : ℝ := tot X g i a / den g i

/-- The offset of virtual node `v` from the centroid, the same in every coordinate. -/
def off (v : ℕ) : ℝ := -1 + (v : ℝ) * 2 / 7

/-- Coordinate `a` of virtual node `j`, eight to a graph. -/
def vpos (j : Fin 128) (a : Fin 3) : ℝ := cen X g ⟨j.val / 8, by omega⟩ a + off (j.val % 8)

/-- The squared distance of node `n` to the centroid of graph `i`. -/
def sqd (i : Fin 16) (n : Fin 16384) : ℝ := ∑ a, (X n a - cen X g i a) * (X n a - cen X g i a)

/-- Centre `j` of the node features. -/
def mu64 (j : ℕ) : ℝ := (j : ℝ) * 20 / 63

/-- Centre `b` of the edge features. -/
def mu16 (b : ℕ) : ℝ := (b : ℝ) * 30 / 15

/-- Feature `j` of node `n`. -/
def nodeFeat (n : Fin 16384) (j : ℕ) : ℝ :=
  Real.exp (-((√(sqd X g (g n) n) - mu64 j) / (20 / 64) * ((√(sqd X g (g n) n) - mu64 j) / (20 / 64))))

/-- The squared distance of node `n` to virtual node `v` of graph `i`. -/
def vsq (i : Fin 16) (v : ℕ) (n : Fin 16384) : ℝ :=
  ∑ a, (cen X g i a + off v - X n a) * (cen X g i a + off v - X n a)

/-- Feature `b` of the edge from node `n` to virtual node `v` of graph `i`. -/
def edgeTerm (i : Fin 16) (v b : ℕ) (n : Fin 16384) : ℝ :=
  Real.exp (-((√(vsq X g i v n) - mu16 b) / (30 / 16) * ((√(vsq X g i v n) - mu16 b) / (30 / 16))))

/-- The mean of feature `b` over the edges of virtual node `v` of graph `i`. -/
def edgeFeat (i : Fin 16) (v b : ℕ) : ℝ := (∑ n, if g n = i then edgeTerm X g i v b n else 0) / den g i

theorem den_pos (i : Fin 16) : 0 < den g i := lt_of_lt_of_le one_pos (le_max_right _ _)

theorem sqd_nonneg (i : Fin 16) (n : Fin 16384) : 0 ≤ sqd X g i n := Finset.sum_nonneg fun _ _ => mul_self_nonneg _

theorem vsq_nonneg (i : Fin 16) (v : ℕ) (n : Fin 16384) : 0 ≤ vsq X g i v n :=
  Finset.sum_nonneg fun _ _ => mul_self_nonneg _

/-! ## The scales that turn the exponential into base two -/

/-- The scale of the node features. -/
def A64 : ℝ := (256 / 25) * (Real.log 2)⁻¹

/-- The scale of the edge features. -/
def A16 : ℝ := (64 / 225) * (Real.log 2)⁻¹

theorem log2_pos : 0 < Real.log 2 := Real.log_pos (by norm_num)

theorem A64_pos : 0 < A64 := mul_pos (by norm_num) (inv_pos.mpr log2_pos)

theorem A16_pos : 0 < A16 := mul_pos (by norm_num) (inv_pos.mpr log2_pos)

theorem A64_eq : (256 : ℝ) / (25 * Real.log 2) = A64 := by
  unfold A64; have := log2_pos; field_simp

theorem A16_eq : (64 : ℝ) / (225 * Real.log 2) = A16 := by
  unfold A16; have := log2_pos; field_simp

theorem log2_A64 : Real.log 2 * A64 = 256 / 25 := by
  unfold A64; have := log2_pos; field_simp

theorem log2_A16 : Real.log 2 * A16 = 64 / 225 := by
  unfold A16; have := log2_pos; field_simp

/-- The kernel's exponent: a product of two differences scaled by the root of the scale. -/
theorem exponent (A d mu : ℝ) (hA : 0 ≤ A) :
    Real.log 2 * ((√A * d - mu * √A) * (mu * √A - √A * d)) = -(Real.log 2 * A * ((d - mu) * (d - mu))) := by
  have h : √A * √A = A := Real.mul_self_sqrt hA
  calc _ = -(Real.log 2 * (√A * √A) * ((d - mu) * (d - mu))) := by ring
    _ = _ := by rw [h]

/-- The kernel's node feature is the mathematics'. -/
theorem node_exp (D mu : ℝ) :
    Real.exp (Real.log 2 * ((√(D * A64) - mu * √A64) * (mu * √A64 - √(D * A64))))
      = Real.exp (-((√D - mu) / (20 / 64) * ((√D - mu) / (20 / 64)))) := by
  rw [show √(D * A64) = √A64 * √D by rw [mul_comm, Real.sqrt_mul A64_pos.le], exponent _ _ _ A64_pos.le, log2_A64]
  congr 1; ring

/-- The kernel's edge feature is the mathematics'. -/
theorem edge_exp (D mu : ℝ) :
    Real.exp (Real.log 2 * ((√(A16 * D) - mu * √A16) * (mu * √A16 - √(A16 * D))))
      = Real.exp (-((√D - mu) / (30 / 16) * ((√D - mu) / (30 / 16)))) := by
  rw [Real.sqrt_mul A16_pos.le, exponent _ _ _ A16_pos.le, log2_A16]
  congr 1; ring

/-- A positive number times its reciprocal root is its root. -/
theorem mul_rsqrt (M : ℝ) (h : 0 < M) : M * (√M)⁻¹ = √M := by
  have hs : √M ≠ 0 := (Real.sqrt_pos.mpr h).ne'
  rw [← div_eq_mul_inv, Real.div_sqrt]

/-- The squared distance to a centroid, expanded. -/
theorem sqd_expand (i : Fin 16) (n : Fin 16384) :
    X n 0 * X n 0 + X n 1 * X n 1 + X n 2 * X n 2
        - 2 * (X n 0 * cen X g i 0 + X n 1 * cen X g i 1 + X n 2 * cen X g i 2) + ∑ a, cen X g i a * cen X g i a
      = sqd X g i n := by
  unfold sqd; simp only [Fin.sum_univ_three]; ring

/-- The scaled squared distance to a virtual node, from that to the centroid. -/
theorem vsq_expand (i : Fin 16) (v : ℕ) (n : Fin 16384) :
    sqd X g i n * A16 - (X n 0 + X n 1 + X n 2 - ∑ a, cen X g i a) * (2 * off v * A16) + 3 * off v * off v * A16
      = A16 * vsq X g i v n := by
  unfold sqd vsq; simp only [Fin.sum_univ_three]; ring

/-- The kernel's floor under the scaled squared distance lies below the scale times the least squared distance admitted. -/
theorem floor_le (D : ℝ) (h : (15474250 / 2 ^ 89 : ℝ) ≤ D) : (12379400 / 2 ^ 90 : ℝ) ≤ A16 * D := by
  have h2 : Real.log 2 ≤ 0.71 := by
    rw [Real.log_le_iff_le_exp (by norm_num)]
    refine le_trans ?_ (Real.sum_le_exp_of_nonneg (by norm_num) 4)
    norm_num [Finset.sum_range_succ, Nat.factorial]
  have h4 : (0.4003 : ℝ) ≤ A16 := by
    unfold A16
    rw [← div_eq_mul_inv, le_div_iff₀ log2_pos]; linarith
  calc (12379400 / 2 ^ 90 : ℝ) ≤ 0.4003 * (15474250 / 2 ^ 89) := by norm_num
    _ ≤ A16 * D := mul_le_mul h4 h (by positivity) A16_pos.le

end Cert.Spec

end
-- ==== Proof.Math.Block.lean ====
/- What one block of the kernel computes, as reals: the sums of the first point, and the node features, virtual
   positions and edge features of a later one. -/
module

public import proofs.«01_k».proof.Proof.Body.Frame
public import proofs.«01_k».proof.Proof.Math.Coe
public import proofs.«01_k».proof.Proof.Math.Spec

@[expose] public section

set_option maxRecDepth 16384

noncomputable section

namespace Cert.KernelIdeal.Math

open Cert.KernelIdeal Cert.KernelIdeal.Gen Cert.KernelIdeal.Body Cert.Spec Cert.Coe Idealize.ShloMosaic
open scoped BigOperators

variable (X : Fin 16384 → Fin 3 → ℝ) (g : Fin 16384 → Fin 16)

/-- The coordinates with a row of ones below, and the graph ids, as the kernel finds them. -/
structure Nodes (x1 : Vec Ideal S4x16384 .f32) (x2 : Vec Ideal S1x16384 .f32) : Prop where
  ids : ∀ n, x2 (ix2 0 n) = (((g n).val : ℝ) : EReal)
  coord : ∀ (a : Fin 3) n, x1 (ix2 a.castSucc n) = ((X n a : ℝ) : EReal)
  one : ∀ n, x1 (ix2 3 n) = ((1 : ℝ) : EReal)

/-- The columns of the constant table. -/
structure Table (x0 : Vec Ideal S128x8 .f32) : Prop where
  c0 : ∀ r : Fin 64, x0 (ix2 ⟨r.val, by omega⟩ 0) = ((mu64 r.val * √A64 : ℝ) : EReal)
  c1 : ∀ r : Fin 128, x0 (ix2 r 1) = ((2 * off (r.val / 16) * A16 : ℝ) : EReal)
  c2 : ∀ r : Fin 128, x0 (ix2 r 2) = ((3 * off (r.val / 16) * off (r.val / 16) * A16 : ℝ) : EReal)
  c3 : ∀ r : Fin 128, x0 (ix2 r 3) = ((mu16 (r.val % 16) * √A16 : ℝ) : EReal)
  c4 : ∀ r : Fin 128, x0 (ix2 r 4) = ((off (r.val % 8) : ℝ) : EReal)

/-- The carried sums: the coordinates' in rows 0 to 2, the counts in row 3. -/
structure Sums (s : Vec Ideal S4x16 .f32) : Prop where
  tot : ∀ (a : Fin 3) k, s (ix2 a.castSucc k) = ((tot X g k a : ℝ) : EReal)
  cnt : ∀ k, s (ix2 3 k) = ((cnt g k : ℝ) : EReal)

variable {X g}

/-- The first point stores the sums. -/
theorem sums_of {x1 : Vec Ideal S4x16384 .f32} {x2 : Vec Ideal S1x16384 .f32} (hn : Nodes X g x1 x2) :
    Sums X g (k0_pay1 x2 x1) := by
  have key : ∀ (r : Fin 4) (k : Fin 16) (f : Fin 16384 → ℝ), (∀ n, x1 (ix2 r n) = ((f n : ℝ) : EReal)) →
      k0_pay1 x2 x1 (ix2 r k) = ((∑ n, if g n = k then f n else 0 : ℝ) : EReal) := by
    intro r k f hf
    pointwise [k0_pay1]
    rw [← sum_coe]
    refine Finset.sum_congr rfl fun n _ => ?_
    rw [hf, hn.ids, onehot _ _ (by omega), ← EReal.coe_mul]
    congr 1
    by_cases h : g n = k
    · simp [h]
    · rw [if_neg h, if_neg (fun e => h (Fin.ext e)), mul_zero]
  exact ⟨fun a k => key _ k (fun n => X n a) (hn.coord a), fun k => key 3 k (fun _ => 1) hn.one⟩

/-- The counts, at least one. -/
theorem den_of {s : Vec Ideal S4x16 .f32} (hs : Sums X g s) (k : Fin 16) :
    k0_pay8 s (ix2 0 k) = ((den g k : ℝ) : EReal) := by
  have : k0_pay8 s (ix2 0 k) = max (s (ix2 3 k)) 1 := by pointwise [k0_pay8]
  rw [this, hs.cnt, show (1 : EReal) = ((1 : ℝ) : EReal) from rfl, max_coe]; rfl

/-- The centroids. -/
theorem cen_of {s : Vec Ideal S4x16 .f32} (hs : Sums X g s) (a : Fin 3) (k : Fin 16) :
    k0_pay9 s (ix2 a k) = ((cen X g k a : ℝ) : EReal) := by
  have : k0_pay9 s (ix2 a k) = Ideal.div (s (ix2 a.castSucc k)) (max (s (ix2 3 k)) 1) := by
    pointwise [k0_pay9, k0_pay8]; rfl
  rw [this, hs.tot, hs.cnt, show (1 : EReal) = ((1 : ℝ) : EReal) from rfl, max_coe,
    div_coe _ _ (show max (Spec.cnt g k) 1 ≠ 0 from (den_pos g k).ne')]; rfl

/-- The one-hot matrix of the block's graph ids. -/
theorem onehot_of {v14 : Vec Ideal S1x4096 .f32} {h : Fin 4096 → Fin 16}
    (hv : ∀ n, v14 (ix2 0 n) = (((h n).val : ℝ) : EReal)) (r : Fin 16) (n : Fin 4096) :
    k0_pay7 v14 (ix2 r n) = ((if h n = r then 1 else 0 : ℝ) : EReal) := by
  pointwise [k0_pay7]
  rw [hv, onehot _ _ (by omega)]
  simp only [Fin.ext_iff]

/-- A table row times the one-hot matrix picks the node's graph. -/
theorem pick_of {v14 : Vec Ideal S1x4096 .f32} {h : Fin 4096 → Fin 16}
    (hv : ∀ n, v14 (ix2 0 n) = (((h n).val : ℝ) : EReal)) (n : Fin 4096) (f : Fin 16 → ℝ) :
    ∑ k, ((f k : ℝ) : EReal) * k0_pay7 v14 (ix2 k n) = ((f (h n) : ℝ) : EReal) := by
  simp only [onehot_of hv, ← EReal.coe_mul, sum_coe]
  congr 1
  simp

/-- The gathered rows: the centroid of the node's graph, -/
theorem row_cen {s : Vec Ideal S4x16 .f32} (hs : Sums X g s) {v14 : Vec Ideal S1x4096 .f32} {h : Fin 4096 → Fin 16}
    (hv : ∀ n, v14 (ix2 0 n) = (((h n).val : ℝ) : EReal)) (a : Fin 3) (n : Fin 4096) :
    k0_pay10 v14 s (ix2 ⟨a.val, by omega⟩ n) = ((cen X g (h n) a : ℝ) : EReal) := by
  rw [← pick_of hv n fun k => cen X g k a]
  have : ∀ b : Fin 5, b.val = a.val → k0_pay10 v14 s (ix2 b n) = ∑ k, k0_pay9 s (ix2 a k) * k0_pay7 v14 (ix2 k n) := by
    intro b hb
    pointwise [k0_pay10]
    refine Finset.sum_congr rfl fun k _ => ?_
    rw [dif_pos (by omega)]
    congr 3
    exact Fin.ext hb
  rw [this _ rfl]
  exact Finset.sum_congr rfl fun k _ => by rw [cen_of hs]

/-- its squared norm, -/
theorem row_sq {s : Vec Ideal S4x16 .f32} (hs : Sums X g s) {v14 : Vec Ideal S1x4096 .f32} {h : Fin 4096 → Fin 16}
    (hv : ∀ n, v14 (ix2 0 n) = (((h n).val : ℝ) : EReal)) (n : Fin 4096) :
    k0_pay10 v14 s (ix2 3 n) = ((∑ a, cen X g (h n) a * cen X g (h n) a : ℝ) : EReal) := by
  rw [← pick_of hv n fun k => ∑ a, cen X g k a * cen X g k a]
  have : ∀ b : Fin 5, b.val = 3 → k0_pay10 v14 s (ix2 b n)
      = ∑ k, (∑ a, k0_pay9 s (ix2 a k) * k0_pay9 s (ix2 a k)) * k0_pay7 v14 (ix2 k n) := by
    intro b hb
    pointwise [k0_pay10]
    refine Finset.sum_congr rfl fun k _ => ?_
    rw [dif_neg (by omega), dif_pos (by omega)]
  rw [this 3 rfl]
  exact Finset.sum_congr rfl fun k _ => by simp only [cen_of hs, ← EReal.coe_mul, sum_coe]

/-- and the sum of its coordinates. -/
theorem row_sum {s : Vec Ideal S4x16 .f32} (hs : Sums X g s) {v14 : Vec Ideal S1x4096 .f32} {h : Fin 4096 → Fin 16}
    (hv : ∀ n, v14 (ix2 0 n) = (((h n).val : ℝ) : EReal)) (n : Fin 4096) :
    k0_pay10 v14 s (ix2 4 n) = ((∑ a, cen X g (h n) a : ℝ) : EReal) := by
  rw [← pick_of hv n fun k => ∑ a, cen X g k a]
  have : ∀ b : Fin 5, b.val = 4 → k0_pay10 v14 s (ix2 b n)
      = ∑ k, (∑ a, k0_pay9 s (ix2 a k)) * k0_pay7 v14 (ix2 k n) := by
    intro b hb
    pointwise [k0_pay10]
    refine Finset.sum_congr rfl fun k _ => ?_
    rw [dif_neg (by omega), dif_neg (by omega)]
  rw [this 4 rfl]
  exact Finset.sum_congr rfl fun k _ => by simp only [cen_of hs, sum_coe]

/-! ## A block of 4096 nodes from node `base` on -/

/-- Node `n` of the block that begins at node `base`. -/
abbrev nodeAtBase (base : ℕ) (hb : base + 4096 ≤ 16384) (n : Fin 4096) : Fin 16384 := ⟨base + n.val, by omega⟩

section block

variable {i : grid0.Coords} (h : k0_cond2 i = 1#1) {base : ℕ} (hb : base + 4096 ≤ 16384)
  (h1 : k0_off1 i = ![0, base]) (h2 : k0_off2 i = ![0, base])
  {x0 : Vec Ideal S128x8 .f32} {x1 : Vec Ideal S4x16384 .f32} {x2 : Vec Ideal S1x16384 .f32} {s : Vec Ideal S4x16 .f32}
  (ht : Table x0) (hn : Nodes X g x1 x2) (hs : Sums X g s)

include hb h2 hn in
theorem id_of (n : Fin 4096) : idBlk i h x2 (ix2 0 n) = (((g (nodeAtBase base hb n)).val : ℝ) : EReal) := by
  pointwise [idBlk]
  rw [← hn.ids]
  refine congrArg x2 (congrArg₂ ix2 (Fin.ext ?_) (Fin.ext ?_)) <;> simp [h2]

include hb h1 hn in
theorem x_of (a : Fin 3) (n : Fin 4096) :
    xBlk i h x1 (ix2 a.castSucc n) = ((X (nodeAtBase base hb n) a : ℝ) : EReal) := by
  pointwise [xBlk]
  rw [← hn.coord]
  refine congrArg x1 (congrArg₂ ix2 (Fin.ext ?_) (Fin.ext ?_)) <;> simp [h1]

include hb h1 hn in
/-- The squared norm of a node's position. -/
theorem norm_of (n : Fin 4096) : k0_pay14 (xBlk i h x1) (ix2 0 n)
    = ((X (nodeAtBase base hb n) 0 * X (nodeAtBase base hb n) 0 + X (nodeAtBase base hb n) 1 * X (nodeAtBase base hb n) 1
        + X (nodeAtBase base hb n) 2 * X (nodeAtBase base hb n) 2 : ℝ) : EReal) := by
  have e : k0_pay14 (xBlk i h x1) (ix2 0 n) = xBlk i h x1 (ix2 0 n) * xBlk i h x1 (ix2 0 n)
      + xBlk i h x1 (ix2 1 n) * xBlk i h x1 (ix2 1 n) + xBlk i h x1 (ix2 2 n) * xBlk i h x1 (ix2 2 n) := by
    pointwise [k0_pay14, k0_pay11, k0_pay12, k0_pay13, k0_pay6]
  rw [e, show xBlk i h x1 (ix2 0 n) = _ from x_of h hb h1 hn 0 n, show xBlk i h x1 (ix2 1 n) = _ from x_of h hb h1 hn 1 n,
    show xBlk i h x1 (ix2 2 n) = _ from x_of h hb h1 hn 2 n]
  norm_cast

include hb h1 h2 hn hs in
/-- The inner product of a node's position and its graph's centroid. -/
theorem inner_of (n : Fin 4096) : k0_pay15 (xBlk i h x1) (idBlk i h x2) s (ix2 0 n)
    = ((X (nodeAtBase base hb n) 0 * cen X g (g (nodeAtBase base hb n)) 0
        + X (nodeAtBase base hb n) 1 * cen X g (g (nodeAtBase base hb n)) 1
        + X (nodeAtBase base hb n) 2 * cen X g (g (nodeAtBase base hb n)) 2 : ℝ) : EReal) := by
  have e : k0_pay15 (xBlk i h x1) (idBlk i h x2) s (ix2 0 n)
      = xBlk i h x1 (ix2 0 n) * k0_pay10 (idBlk i h x2) s (ix2 0 n)
      + xBlk i h x1 (ix2 1 n) * k0_pay10 (idBlk i h x2) s (ix2 1 n)
      + xBlk i h x1 (ix2 2 n) * k0_pay10 (idBlk i h x2) s (ix2 2 n) := by
    pointwise [k0_pay15, k0_pay11, k0_pay12, k0_pay13, k0_pay6]
  have hv := id_of h hb h2 hn
  rw [e, show xBlk i h x1 (ix2 0 n) = _ from x_of h hb h1 hn 0 n, show xBlk i h x1 (ix2 1 n) = _ from x_of h hb h1 hn 1 n,
    show xBlk i h x1 (ix2 2 n) = _ from x_of h hb h1 hn 2 n,
    show k0_pay10 (idBlk i h x2) s (ix2 0 n) = _ from row_cen hs hv 0 n,
    show k0_pay10 (idBlk i h x2) s (ix2 1 n) = _ from row_cen hs hv 1 n,
    show k0_pay10 (idBlk i h x2) s (ix2 2 n) = _ from row_cen hs hv 2 n]
  norm_cast

include hb h1 h2 hn hs in
/-- The block's squared distances to the centroids. -/
theorem d2_of (n : Fin 4096) :
    max (k0_pay14 (xBlk i h x1) (ix2 0 n)
        - (k0_pay16 : FVec Ideal S1x4096 .f32) (ix2 0 n) * k0_pay15 (xBlk i h x1) (idBlk i h x2) s (ix2 0 n)
        + k0_pay10 (idBlk i h x2) s (ix2 3 n)) 0
      = ((sqd X g (g (nodeAtBase base hb n)) (nodeAtBase base hb n) : ℝ) : EReal) := by
  have e : (k0_pay16 : FVec Ideal S1x4096 .f32) (ix2 0 n) = ((2 : ℝ) : EReal) := by
    rw [← word_two]; pointwise [k0_pay16]
  rw [e, norm_of h hb h1 hn, inner_of h hb h1 h2 hn hs, row_sq hs (id_of h hb h2 hn), ← EReal.coe_mul, ← EReal.coe_sub,
    ← EReal.coe_add, sqd_expand, show (0 : EReal) = ((0 : ℝ) : EReal) from rfl, max_coe, max_eq_left (sqd_nonneg _ _ _ _)]

/-- The named scale of the node features. -/
theorem named64 : Named.named (F := Ideal) (φ := .f32) κ "a64" 0x416C5F04#32 = ((A64 : ℝ) : EReal) :=
  IdealRules.named_const.ideal_named_scalar _ _ _ _ rfl

/-- The named scale of the edge features. -/
theorem named16 : Named.named (F := Ideal) (φ := .f32) κ "a16" 0x3ED21B92#32 = ((A16 : ℝ) : EReal) :=
  IdealRules.named_const.ideal_named_scalar _ _ _ _ rfl

include hb h1 h2 ht hn hs in
/-- A block's node features are the mathematics'. -/
theorem node_of (r : Fin 4096) (j : Fin 64) :
    nodeOut i h x0 x1 x2 s (ix2 r j) = ((nodeFeat X g (nodeAtBase base hb r) j.val : ℝ) : EReal) := by
  have et : tab0 x0 (ix2 j 0) = ((mu64 j.val * √A64 : ℝ) : EReal) := by
    rw [← ht.c0 j]; pointwise [tab0]
  unfold nodeOut
  pointwise [k0_pay18, k0_pay17]
  rw [d2_of h hb h1 h2 hn hs, et, named64, ← EReal.coe_mul,
    sqrt_coe _ (mul_nonneg (sqd_nonneg _ _ _ _) A64_pos.le), ← EReal.coe_sub, ← EReal.coe_sub, ← EReal.coe_mul, exp2_coe,
    node_exp]
  rfl

include hb h1 h2 ht hn hs in
/-- A block's scaled distances to the virtual nodes of the nodes' own graphs, where these lie apart. -/
theorem dist_of (ha : ∀ v < 8, ∀ n, (15474250 / 2 ^ 89 : ℝ) ≤ vsq X g (g n) v n) (r : Fin 128) (n : Fin 4096) :
    distOut i h x0 x1 x2 s (ix2 r n)
      = ((√(A16 * vsq X g (g (nodeAtBase base hb n)) (r.val / 16) (nodeAtBase base hb n)) : ℝ) : EReal) := by
  have e1 : tab1 x0 (ix2 r 0) = ((2 * off (r.val / 16) * A16 : ℝ) : EReal) := by
    rw [← ht.c1 r]; pointwise [tab1]
  have e2 : tab2 x0 (ix2 r 0) = ((3 * off (r.val / 16) * off (r.val / 16) * A16 : ℝ) : EReal) := by
    rw [← ht.c2 r]; pointwise [tab2]
  have ex : k0_pay11 (xBlk i h x1) (ix2 0 n) = ((X (nodeAtBase base hb n) 0 : ℝ) : EReal) := by
    rw [← x_of h hb h1 hn 0 n]; pointwise [k0_pay11, k0_pay6]; rfl
  have ey : k0_pay12 (xBlk i h x1) (ix2 0 n) = ((X (nodeAtBase base hb n) 1 : ℝ) : EReal) := by
    rw [← x_of h hb h1 hn 1 n]; pointwise [k0_pay12, k0_pay6]; rfl
  have ez : k0_pay13 (xBlk i h x1) (ix2 0 n) = ((X (nodeAtBase base hb n) 2 : ℝ) : EReal) := by
    rw [← x_of h hb h1 hn 2 n]; pointwise [k0_pay13, k0_pay6]; rfl
  have hv := id_of h hb h2 hn
  have hf := floor_le _ (ha (r.val / 16) (by omega) (nodeAtBase base hb n))
  unfold distOut
  pointwise [k0_pay19, k0_pay17]
  rw [d2_of h hb h1 h2 hn hs, e1, e2, ex, ey, ez, named16, row_sum hs hv, word_floor]
  simp only [← EReal.coe_mul, ← EReal.coe_sub, ← EReal.coe_add]
  rw [vsq_expand, max_coe, max_eq_left hf, rsqrt_coe _ (lt_of_lt_of_le (by norm_num) hf), ← EReal.coe_mul,
    mul_rsqrt _ (lt_of_lt_of_le (by norm_num) hf)]

include hb h1 h2 ht hn hs in
/-- A block adds its nodes' edge features to the sums, each to its own graph's. -/
theorem edge_of (ha : ∀ v < 8, ∀ n, (15474250 / 2 ^ 89 : ℝ) ≤ vsq X g (g n) v n) (acc : Vec Ideal S128x16 .f32)
    (r : Fin 128) (k : Fin 16) :
    edgeOut i h x0 x1 x2 s acc (ix2 r k)
      = acc (ix2 r k) + ((∑ n : Fin 4096, if g (nodeAtBase base hb n) = k then
          edgeTerm X g k (r.val / 16) (r.val % 16) (nodeAtBase base hb n) else 0 : ℝ) : EReal) := by
  have e3 : tab3 x0 (ix2 r 0) = ((mu16 (r.val % 16) * √A16 : ℝ) : EReal) := by
    rw [← ht.c3 r]; pointwise [tab3]
  unfold edgeOut
  pointwise [k0_pay4]
  rw [← sum_coe]
  refine congrArg (acc (ix2 r k) + ·) (Finset.sum_congr rfl fun n _ => ?_)
  rw [dist_of h hb h1 h2 ht hn hs ha, e3, onehot_of (id_of h hb h2 hn), ← EReal.coe_sub, ← EReal.coe_sub, ← EReal.coe_mul,
    exp2_coe, edge_exp, ← EReal.coe_mul]
  congr 1
  by_cases hk : g (nodeAtBase base hb n) = k
  · rw [if_pos hk, if_pos hk, mul_one, hk]; rfl
  · rw [if_neg hk, if_neg hk, mul_zero]

end block

/-- The words that say which graph a virtual node belongs to. -/
theorem rep_of : ∀ (r : Fin 128) (x : Fin 16),
    IntOp.cmpi CmpIPredicate.eq
      (Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 8#32 0#32))
              (Scalar.extui (Scalar.cmpi CmpIPredicate.slt 8#32 0#32))))
          (IntOp.cmpi CmpIPredicate.ne (IntOp.remsi ArithUnit.vector (BitVec.ofNat 32 r.val) 8#32) 0#32))
        (IntOp.subi (IntOp.divsi ArithUnit.vector (BitVec.ofNat 32 r.val) 8#32) 1#32)
        (IntOp.divsi ArithUnit.vector (BitVec.ofNat 32 r.val) 8#32))
      (BitVec.ofNat 32 x.val) = BitVec.ofBool (decide (r.val / 8 = x.val)) := by
  decide +kernel

/-- The virtual positions. -/
theorem pos_of {x0 : Vec Ideal S128x8 .f32} {s : Vec Ideal S4x16 .f32} (ht : Table x0) (hs : Sums X g s)
    (r : Fin 128) (a : Fin 3) : posOut x0 s (ix2 r a) = ((vpos X g r a : ℝ) : EReal) := by
  have e4 : tab4 x0 (ix2 r 0) = ((off (r.val % 8) : ℝ) : EReal) := by
    rw [← ht.c4 r]; pointwise [tab4]
  unfold posOut
  pointwise [k0_pay3]
  simp only [rep_of, sitofp_bit, cen_of hs, ← EReal.coe_mul, sum_coe, e4, ← EReal.coe_add]
  congr 1
  unfold vpos
  congr 1
  rw [Finset.sum_eq_single (⟨r.val / 8, by omega⟩ : Fin 16)]
  · simp
  · intro b _ hbne
    rw [if_neg fun e => hbne (Fin.ext e.symm), mul_zero]
  · intro hni; exact absurd (Finset.mem_univ _) hni

/-- The edge sums divided by the counts. -/
theorem mean_of {s : Vec Ideal S4x16 .f32} (hs : Sums X g s) (acc : Vec Ideal S128x16 .f32) (r : Fin 128) (k : Fin 16)
    (f : ℝ) (hf : acc (ix2 r k) = ((f : ℝ) : EReal)) :
    edgeMean s acc (ix2 r k) = ((f / den g k : ℝ) : EReal) := by
  unfold edgeMean
  pointwise [k0_pay5]
  rw [hf, den_of hs, div_coe _ _ (den_pos g k).ne']

end Cert.KernelIdeal.Math

end
-- ==== Proof.Math.Inputs.lean ====
/- What the host hands to the kernel: the constant table, and the nodes' coordinates and graph ids. -/
module

public import proofs.«01_k».proof.Proof.Math.Block
public import Idealize.ShloMosaic.Lib.StableHlo.ReadAt

@[expose] public section

set_option maxRecDepth 16384

noncomputable section

namespace Cert.KernelIdeal.Math

open Cert.KernelIdeal Cert.KernelIdeal.Gen Cert.KernelIdeal.Body Cert.Spec Cert.Coe Idealize.ShloMosaic
open scoped BigOperators

variable (m : (ℓ : Loc nD τ sig) → Buf (Elt Ideal) ℓ) (c : Dev nD)

theorem div16 : ∀ r : Fin 128, IntOp.divsi ArithUnit.host (BitVec.ofNat 32 r.val) 16#32 = BitVec.ofNat 32 (r.val / 16) := by
  decide +kernel

theorem rem16 : ∀ r : Fin 128, IntOp.remsi ArithUnit.host (BitVec.ofNat 32 r.val) 16#32 = BitVec.ofNat 32 (r.val % 16) := by
  decide +kernel

theorem rem8 : ∀ r : Fin 128, IntOp.remsi ArithUnit.host (BitVec.ofNat 32 r.val) 8#32 = BitVec.ofNat 32 (r.val % 8) := by
  decide +kernel

theorem lt64 : ∀ r : Fin 64, IntOp.cmpi CmpIPredicate.slt (BitVec.ofNat 32 r.val) 64#32 = 1#1 := by
  decide +kernel

/-- The table's scale of the node features. -/
theorem host64 : Ideal.div (Ideal.ofBits FTy.f32 0x43800000#32)
    (Ideal.ofBits FTy.f32 0x41C80000#32 * Ideal.log (Ideal.ofBits FTy.f32 0x40000000#32)) = ((A64 : ℝ) : EReal) := by
  rw [word_w256, word_twentyfive, word_two, log_coe _ (by norm_num), ← EReal.coe_mul,
    div_coe _ _ (mul_ne_zero (by norm_num) log2_pos.ne'), A64_eq]

/-- The table's scale of the edge features. -/
theorem host16 : Ideal.div (Ideal.ofBits FTy.f32 0x42800000#32)
    (Ideal.ofBits FTy.f32 0x43610000#32 * Ideal.log (Ideal.ofBits FTy.f32 0x40000000#32)) = ((A16 : ℝ) : EReal) := by
  rw [word_sixtyfour, word_w225, word_two, log_coe _ (by norm_num), ← EReal.coe_mul,
    div_coe _ _ (mul_ne_zero (by norm_num) log2_pos.ne'), A16_eq]

/-- An offset as the host computes it. -/
theorem host_off (v : ℕ) (hv : v < 2 ^ 31) : Ideal.ofBits FTy.f32 0xBF800000#32
    + Ideal.div (FloatOps.sitofp (F := Ideal) FTy.f32 (BitVec.ofNat 32 v) * Ideal.ofBits FTy.f32 0x40000000#32)
      (Ideal.ofBits FTy.f32 0x40E00000#32) = ((off v : ℝ) : EReal) := by
  rw [word_negOne, sitofp_nat v hv, word_two, word_seven, ← EReal.coe_mul, div_coe _ _ (by norm_num), ← EReal.coe_add]
  rfl

/-- The table the host computes. -/
theorem table : Table (V m c main_v60) where
  c0 r := by
    unfold V
    after_reads_at
    after_reads_at
    rw [lt64, show Scalar.select (1#1) _ _ = _ from if_pos rfl, host64, sqrt_coe _ A64_pos.le, sitofp_nat _ (by omega),
      word_twenty, word_sixtythree, ← EReal.coe_mul, div_coe _ _ (by norm_num), ← EReal.coe_mul]
    rfl
  c1 r := by
    unfold V
    after_reads_at
    after_reads_at
    rw [div16, host_off _ (by omega), host16, word_two, ← EReal.coe_mul, ← EReal.coe_mul]
  c2 r := by
    unfold V
    after_reads_at
    after_reads_at
    rw [div16, host_off _ (by omega), host16, word_three, ← EReal.coe_mul, ← EReal.coe_mul, ← EReal.coe_mul]
  c3 r := by
    unfold V
    after_reads_at
    after_reads_at
    rw [rem16, host16, sqrt_coe _ A16_pos.le, sitofp_nat _ (by omega), word_thirty, word_fifteen, ← EReal.coe_mul,
      div_coe _ _ (by norm_num), ← EReal.coe_mul]
    rfl
  c4 r := by
    unfold V
    after_reads_at
    after_reads_at
    rw [rem8, host_off _ (by omega)]

variable {X : Fin 16384 → Fin 3 → ℝ} {g : Fin 16384 → Fin 16}

/-- The coordinates and the graph ids the host hands over. -/
theorem nodes (hX : ∀ n a, (m (c, Proc.tc.devRef main_arg0) (ix2 n a) : EReal) = ((X n a : ℝ) : EReal))
    (hg : ∀ n, (m (c, Proc.tc.devRef main_arg1) (ix1 n) : BitVec 32) = BitVec.ofNat 32 (g n).val) :
    Nodes X g (V m c main_v65) (V m c main_v62) where
  ids n := by
    unfold V
    after_reads_at
    rw [hg, sitofp_nat _ (by omega)]
  coord a n := by
    unfold V
    after_reads_at
    exact (dif_pos (show a.val < 3 from a.isLt)).trans (hX n a)
  one n := by
    unfold V
    after_reads_at
    rfl

/-! ## The windows' blocks are the whole arrays -/

theorem idx : ∀ t : Fin cfg0.N, win0_0.index t = ![0, 0] ∧ win0_1.index t = ![0, 0] ∧ win0_2.index t = ![0, 0]
    ∧ win0_3.index t = ![t.val - 1, 0] ∧ win0_4.index t = ![0, 0] ∧ win0_5.index t = ![0, 0] := by
  decide +kernel

theorem iblk0 (t : Fin cfg0.N) : (iblk m c 0 t : Vec Ideal S128x8 .f32) = V m c main_v60 := by
  funext x
  blk_ext [iblk, idx t]

theorem iblk1 (t : Fin cfg0.N) : (iblk m c 1 t : Vec Ideal S4x16384 .f32) = V m c main_v65 := by
  funext x
  blk_ext [iblk, idx t]

theorem iblk2 (t : Fin cfg0.N) : (iblk m c 2 t : Vec Ideal S1x16384 .f32) = V m c main_v62 := by
  funext x
  blk_ext [iblk, idx t]

end Cert.KernelIdeal.Math

end
-- ==== Proof.Math.Arrays.lean ====
/- What the kernel's three result arrays hold after the run, as reals. -/
module

public import proofs.«01_k».proof.Proof.Math.Inputs

@[expose] public section

set_option maxRecDepth 16384

noncomputable section

namespace Cert.Spec

open Idealize.ShloMosaic

variable (X : Fin 16384 → Fin 3 → ℝ) (g : Fin 16384 → Fin 16)

/-- The node features as an array. -/
def nodeArr : FVec Ideal ⟨2, ![16384, 64]⟩ .f32 := fun j => ((nodeFeat X g (j 0) (j 1).val : ℝ) : EReal)

/-- The virtual positions as an array. -/
def posArr : FVec Ideal ⟨2, ![128, 3]⟩ .f32 := fun j => ((vpos X g (j 0) (j 1) : ℝ) : EReal)

/-- The edge features as an array: a row for each virtual node of a graph and each feature, a column for each graph. -/
def edgeArr : FVec Ideal ⟨2, ![128, 16]⟩ .f32 := fun j =>
  ((edgeFeat X g (j 1) ((j 0).val / 16) ((j 0).val % 16) : ℝ) : EReal)

end Cert.Spec

namespace Cert.KernelIdeal.Math

open Cert.KernelIdeal Cert.KernelIdeal.Gen Cert.KernelIdeal.Body Cert.Spec Cert.Coe Idealize.ShloMosaic
open scoped BigOperators

variable {m : (ℓ : Loc nD τ sig) → Buf (Elt Ideal) ℓ} {c : Dev nD}
variable {X : Fin 16384 → Fin 3 → ℝ} {g : Fin 16384 → Fin 16}

/-- The rows a later point reads begin at its block's first node. -/
theorem base_of : ∀ t : Fin cfg0.N, 1 ≤ t.val →
    k0_off1 (grid0.coords t) = ![0, (t.val - 1) * 4096] ∧ k0_off2 (grid0.coords t) = ![0, (t.val - 1) * 4096] := by
  decide +kernel

variable (hn : Nodes X g (V m c main_v65) (V m c main_v62))
include hn

/-- The scratch holds the sums. -/
theorem sums_eq : Sums X g (sums m c) := by
  unfold sums
  rw [iblk1, iblk2]
  exact sums_of hn

/-- The node features after a later point. -/
theorem nodeAt_eq (t : Fin cfg0.N) (h1 : 1 ≤ t.val) (r : Fin 4096) (j : Fin 64) (n : Fin 16384)
    (e : n.val = (t.val - 1) * 4096 + r.val) :
    nodeAt m c t (ix2 r j) = ((nodeFeat X g n j.val : ℝ) : EReal) := by
  have hN : t.val < 5 := t.isLt
  rw [nodeAt_pos m c t ((cond2_iff t).mpr h1), iblk0, iblk1, iblk2,
    node_of _ (by omega) (base_of t h1).1 (base_of t h1).2 (table m c) hn (sums_eq hn)]
  exact congrArg (fun n => ((nodeFeat X g n j.val : ℝ) : EReal)) (Fin.ext e.symm)

/-- The virtual positions. -/
theorem posAt_eq (r : Fin 128) (a : Fin 3) : posAt m c (ix2 r a) = ((vpos X g r a : ℝ) : EReal) := by
  unfold posAt
  rw [iblk0]
  exact pos_of (table m c) (sums_eq hn) r a

variable (X g) in
omit hn in
/-- What node `n` adds to an edge feature of graph `k`, nothing beyond the last node. -/
def share (k : Fin 16) (v b n : ℕ) : ℝ :=
  if h : n < 16384 then (if g ⟨n, h⟩ = k then edgeTerm X g k v b ⟨n, h⟩ else 0) else 0

omit hn in
/-- The shares of all the nodes. -/
theorem share_total (k : Fin 16) (v b : ℕ) :
    ∑ x ∈ Finset.range (4 * 4096), share X g k v b x = ∑ n, if g n = k then edgeTerm X g k v b n else 0 := by
  have h : ∀ N : ℕ, N = 16384 → ∑ x ∈ Finset.range N, share X g k v b x = ∑ n, if g n = k then edgeTerm X g k v b n else 0 := by
    rintro N rfl
    rw [Finset.sum_range]
    refine Finset.sum_congr rfl fun n _ => ?_
    unfold share
    rw [dif_pos n.isLt]
  exact h _ (by norm_num)

/-- The edge sums after point `n`: over the nodes of the blocks so far. -/
theorem edgeSum_eq (ha : ∀ v < 8, ∀ n, (15474250 / 2 ^ 89 : ℝ) ≤ vsq X g (g n) v n) (r : Fin 128) (k : Fin 16) (n : ℕ) (h4 : n ≤ 4) :
    edgeSum m c n (ix2 r k) = ((∑ x ∈ Finset.range (n * 4096), share X g k (r.val / 16) (r.val % 16) x : ℝ) : EReal) := by
  induction n with
  | zero =>
    show (k0_pay2 : FVec Ideal S128x16 .f32) (ix2 r k) = _
    pointwise [k0_pay2]
    simp
  | succ n ih =>
    have hc : k0_cond2 (grid0.coords (⟨n + 1, by show n + 1 < 5; omega⟩ : Fin cfg0.N)) = 1#1 :=
      (cond2_iff _).mpr (by show 1 ≤ n + 1; omega)
    have hb := base_of (⟨n + 1, by show n + 1 < 5; omega⟩ : Fin cfg0.N) (by show 1 ≤ n + 1; omega)
    refine (congrFun (edgeSum_step m c ⟨n + 1, by show n + 1 < 5; omega⟩ hc) _).trans ?_
    rw [iblk0, iblk1, iblk2, edge_of hc (base := n * 4096) (by omega) hb.1 hb.2 (table m c) hn (sums_eq hn) ha]
    show edgeSum m c n (ix2 r k) + _ = _
    rw [ih (by omega), ← EReal.coe_add, Nat.succ_mul, Finset.sum_range_add, Finset.sum_range (n := 4096)]
    congr 3
    funext x
    unfold share
    rw [dif_pos (show n * 4096 + x.val < 16384 by omega)]

/-- The edge features after the last point. -/
theorem edgeAt_eq (ha : ∀ v < 8, ∀ n, (15474250 / 2 ^ 89 : ℝ) ≤ vsq X g (g n) v n) (r : Fin 128) (k : Fin 16) :
    edgeAt m c 4 (ix2 r k) = ((edgeFeat X g k (r.val / 16) (r.val % 16) : ℝ) : EReal) := by
  unfold edgeAt
  rw [if_pos rfl, mean_of (sums_eq hn) _ r k _ (edgeSum_eq hn ha r k 4 le_rfl)]
  rw [share_total]
  rfl

/-! ## The arrays after the run -/

/-- The node features' array. -/
theorem final3 : (dats m 0 c).arrAt 3 cfg0.N = nodeArr X g := by
  refine (dats m 0 c).arrAt_eq_of_covers 3 _ (by decide +kernel) fun t hf y => ?_
  have h1 : 1 ≤ t.val := by
    by_contra h
    rw [(flush_out t).1 (by omega)] at hf
    exact absurd hf (by decide)
  blk_simp
  rw [after3]
  obtain ⟨r, j, rfl⟩ : ∃ (r : Fin 4096) (j : Fin 64), y = ix2 r j := ⟨y 0, y 1, by funext a; fin_cases a <;> rfl⟩
  have e : win0_3.index t = ![t.val - 1, 0] := (idx t).2.2.2.1
  rw [nodeAt_eq hn t h1 r j ((win0_3.blk t).view.emb (ix2 r j) 0) (by blk_simp [e])]
  unfold nodeArr
  exact congrArg (fun q : ℕ => ((nodeFeat X g _ q : ℝ) : EReal)) (by blk_simp [e])

/-- The virtual positions the second point leaves, as an array. -/
theorem posAt_arr : posAt m c = posArr X g := by
  generalize hP : posAt m c = P
  funext j
  obtain ⟨r, a, rfl⟩ : ∃ (r : Fin 128) (a : Fin 3), j = ix2 r a := ⟨j 0, j 1, by funext a; fin_cases a <;> rfl⟩
  rw [← hP, posAt_eq hn r a]
  rfl

/-- The virtual positions' array. -/
theorem final4 : (dats m 0 c).arrAt 4 cfg0.N = posArr X g := by
  refine (dats m 0 c).arrAt_eq_of_after_last 4 (⟨4, by decide⟩ : Fin cfg0.N) (by decide +kernel) _ fun j => ?_
  rw [(after4 m c (⟨4, by decide⟩ : Fin cfg0.N)).trans (posAt_arr hn)]
  refine (cast_eq _ _).trans ?_
  rfl

/-- The edge features' array. -/
theorem final5 (ha : ∀ v < 8, ∀ n, (15474250 / 2 ^ 89 : ℝ) ≤ vsq X g (g n) v n) : (dats m 0 c).arrAt 5 cfg0.N = edgeArr X g := by
  refine (dats m 0 c).arrAt_eq_of_after_last 5 (⟨4, by decide⟩ : Fin cfg0.N) (by decide +kernel) _ fun j => ?_
  blk_simp
  refine (congrFun (after5 m c _) _).trans ?_
  obtain ⟨r, k, rfl⟩ : ∃ (r : Fin 128) (k : Fin 16), j = ix2 r k := ⟨j 0, j 1, by funext a; fin_cases a <;> rfl⟩
  exact edgeAt_eq hn ha r k

end Cert.KernelIdeal.Math

end
-- ==== Proof.Math.Scatter.lean ====
/- A scatter that adds by one index word: which entry an update lands at, and the sum an entry receives. -/
module

public import proofs.«01_k».proof.Proof.Math.Coe
public import Idealize.ShloMosaic.Lib.Routing.OpsPair

@[expose] public section

noncomputable section

namespace Cert.Scatter

open Idealize.ShloMosaic
open scoped BigOperators

variable {N G A w : ℕ}

/-- Scalar `n` of the updates lands at the entry its index word names. -/
theorem lands_one (d : ScatterDims ⟨1, ![G]⟩ ⟨2, ![N, 1]⟩ ⟨1, ![N]⟩) (hiw : d.insertedWindowDims = [0])
    (hsd : d.scatterDimsToOperandDims = [0]) (hivd : d.indexVectorDim = 1) (idx : IVec ⟨2, ![N, 1]⟩ w) (n : Fin N) (k : Fin G) :
    d.resultIdx? (ix1 n) idx = some (ix1 k) ↔ (idx (ix2 n (0 : Fin 1))).toInt = (k.val : Int) := by
  have hm : (0 : Fin 1) ∈ d.scatterDimsToOperandDims := by rw [hsd]; exact List.mem_singleton.2 rfl
  have hwin : d.window (ix1 n) 0 = 0 :=
    dif_neg fun h => (of_decide_eq_true (List.mem_filter.1 h).2) (by rw [hiw]; exact List.mem_singleton.2 rfl)
  have hat : d.siIdx (ix1 n) ⟨d.scatterDimsToOperandDims.idxOf 0, List.idxOf_lt_length_iff.2 hm⟩ = ix2 n (0 : Fin 1) := by
    funext b
    apply Fin.ext
    match b with
    | ⟨0, _⟩ =>
      refine (congrArg Fin.val (dif_neg (by rw [hivd]; exact Nat.zero_ne_one))).trans ?_
      have e : ∀ q : Fin 1, (ix1 n q).val = n.val := fun q => by
        obtain rfl : q = 0 := Subsingleton.elim _ _
        rfl
      exact e _
    | ⟨1, _⟩ => exact Nat.lt_one_iff.mp (Fin.isLt _)
  have hst : d.start (ix1 n) idx 0 = (idx (ix2 n (0 : Fin 1))).toInt :=
    (dif_pos hm).trans (congrArg (fun q => (idx q).toInt) hat)
  rw [Routing.resultIdx?_eq_some]
  constructor
  · intro h
    have := h 0
    rw [hst, hwin] at this
    simpa using this
  · intro h a
    match a with
    | ⟨0, _⟩ =>
      show d.start (ix1 n) idx 0 + (d.window (ix1 n) 0 : Int) = (k.val : Int)
      rw [hst, hwin, h]; simp

/-- Entry `(n, b)` of the updates lands in the row its index word names, at its own column. -/
theorem lands_row (d : ScatterDims ⟨2, ![G, A]⟩ ⟨2, ![N, 1]⟩ ⟨2, ![N, A]⟩) (huw : d.updateWindowDims = [1])
    (hiw : d.insertedWindowDims = [0]) (hsd : d.scatterDimsToOperandDims = [0]) (hivd : d.indexVectorDim = 1)
    (idx : IVec ⟨2, ![N, 1]⟩ w) (n : Fin N) (b : Fin A) (k : Fin G) (a : Fin A) :
    d.resultIdx? (ix2 n b) idx = some (ix2 k a) ↔ (idx (ix2 n (0 : Fin 1))).toInt = (k.val : Int) ∧ b = a := by
  obtain ⟨uw, iw, sd, iv, wf⟩ := d
  dsimp only at huw hiw hsd hivd
  subst huw hiw hsd hivd
  have h0 : (ScatterDims.mk (s := ⟨2, ![G, A]⟩) (si := ⟨2, ![N, 1]⟩) (u := ⟨2, ![N, A]⟩) [1] [0] [0] 1 wf).window (ix2 n b) 0 = 0 := rfl
  have h1 : (ScatterDims.mk (s := ⟨2, ![G, A]⟩) (si := ⟨2, ![N, 1]⟩) (u := ⟨2, ![N, A]⟩) [1] [0] [0] 1 wf).window (ix2 n b) 1 = b.val := rfl
  have s1 : (ScatterDims.mk (s := ⟨2, ![G, A]⟩) (si := ⟨2, ![N, 1]⟩) (u := ⟨2, ![N, A]⟩) [1] [0] [0] 1 wf).start (ix2 n b) idx 1 = 0 := rfl
  have hat : (ScatterDims.mk (s := ⟨2, ![G, A]⟩) (si := ⟨2, ![N, 1]⟩) (u := ⟨2, ![N, A]⟩) [1] [0] [0] 1 wf).siIdx (ix2 n b) ⟨0, Nat.one_pos⟩
      = ix2 n (0 : Fin 1) := by
    funext q
    apply Fin.ext
    match q with
    | ⟨0, _⟩ => rfl
    | ⟨1, _⟩ => rfl
  have s0 : (ScatterDims.mk (s := ⟨2, ![G, A]⟩) (si := ⟨2, ![N, 1]⟩) (u := ⟨2, ![N, A]⟩) [1] [0] [0] 1 wf).start (ix2 n b) idx 0
      = (idx (ix2 n (0 : Fin 1))).toInt := congrArg (fun q => (idx q).toInt) hat
  rw [Routing.resultIdx?_eq_some]
  constructor
  · intro h
    have e0 := h 0
    have e1 := h 1
    rw [s0, h0] at e0
    rw [s1, h1] at e1
    refine ⟨by simpa using e0, Fin.ext ?_⟩
    have e : (0 : Int) + (b.val : Int) = (a.val : Int) := e1
    omega
  · rintro ⟨h, rfl⟩ q
    match q with
    | ⟨0, _⟩ => exact (congrArg₂ (fun x (y : ℕ) => x + (y : Int)) s0 h0).trans (by rw [h]; simp)
    | ⟨1, _⟩ => exact (congrArg₂ (fun x (y : ℕ) => x + (y : Int)) s1 h1).trans (by simp)

/-- A small natural's word, read signed, is it. -/
theorem toInt_small (k : ℕ) (h : k < 2 ^ 31) : (BitVec.ofNat 32 k).toInt = (k : Int) := by
  rw [BitVec.toInt_ofNat']; simp [Int.bmod]; omega

/-- Adding scalars by index: entry `k` receives those whose index is `k`. -/
theorem add_one (d : ScatterDims ⟨1, ![G]⟩ ⟨2, ![N, 1]⟩ ⟨1, ![N]⟩) (hiw : d.insertedWindowDims = [0])
    (hsd : d.scatterDimsToOperandDims = [0]) (hivd : d.indexVectorDim = 1) (idx : IVec ⟨2, ![N, 1]⟩ 32) (g : Fin N → Fin G)
    (hG : G < 2 ^ 31) (hg : ∀ n, idx (ix2 n (0 : Fin 1)) = BitVec.ofNat 32 (g n).val)
    (x : FVec Ideal ⟨1, ![G]⟩ .f32) (u : FVec Ideal ⟨1, ![N]⟩ .f32) (f : Fin N → ℝ)
    (hx : ∀ k, (x (ix1 k) : EReal) = ((0 : ℝ) : EReal)) (hu : ∀ n, (u (ix1 n) : EReal) = ((f n : ℝ) : EReal)) (k : Fin G) :
    (Host.scatterAdd (F := Ideal) d x idx u (ix1 k) : EReal) = ((∑ n, if g n = k then f n else 0 : ℝ) : EReal) := by
  have h : (Host.scatterAdd (F := Ideal) d x idx u (ix1 k) : EReal)
      = x (ix1 k) + ∑ j ∈ Finset.univ.filter (fun j => d.resultIdx? j idx = some (ix1 k)), (u j : EReal) := rfl
  rw [h, hx, Finset.sum_filter, sum_idx1, EReal.coe_zero, zero_add, ← Coe.sum_coe]
  refine Finset.sum_congr rfl fun n _ => ?_
  have hl := lands_one d hiw hsd hivd idx n k
  rw [hg, toInt_small _ (lt_trans (g n).isLt hG)] at hl
  have hl' : d.resultIdx? (ix1 n) idx = some (ix1 k) ↔ g n = k := hl.trans (by rw [Fin.ext_iff]; omega)
  by_cases e : g n = k
  · rw [if_pos (hl'.2 e), if_pos e, hu]
  · rw [if_neg (fun q => e (hl'.1 q)), if_neg e, EReal.coe_zero]

/-- Adding rows by index: row `k` receives, column by column, those whose index is `k`. -/
theorem add_row (d : ScatterDims ⟨2, ![G, A]⟩ ⟨2, ![N, 1]⟩ ⟨2, ![N, A]⟩) (huw : d.updateWindowDims = [1])
    (hiw : d.insertedWindowDims = [0]) (hsd : d.scatterDimsToOperandDims = [0]) (hivd : d.indexVectorDim = 1)
    (idx : IVec ⟨2, ![N, 1]⟩ 32) (g : Fin N → Fin G) (hG : G < 2 ^ 31)
    (hg : ∀ n, idx (ix2 n (0 : Fin 1)) = BitVec.ofNat 32 (g n).val)
    (x : FVec Ideal ⟨2, ![G, A]⟩ .f32) (u : FVec Ideal ⟨2, ![N, A]⟩ .f32) (f : Fin N → Fin A → ℝ)
    (hx : ∀ k a, (x (ix2 k a) : EReal) = ((0 : ℝ) : EReal)) (hu : ∀ n a, (u (ix2 n a) : EReal) = ((f n a : ℝ) : EReal))
    (k : Fin G) (a : Fin A) :
    (Host.scatterAdd (F := Ideal) d x idx u (ix2 k a) : EReal) = ((∑ n, if g n = k then f n a else 0 : ℝ) : EReal) := by
  have h : (Host.scatterAdd (F := Ideal) d x idx u (ix2 k a) : EReal)
      = x (ix2 k a) + ∑ j ∈ Finset.univ.filter (fun j => d.resultIdx? j idx = some (ix2 k a)), (u j : EReal) := rfl
  rw [h, hx, Finset.sum_filter, sum_idx2, EReal.coe_zero, zero_add, ← Coe.sum_coe]
  refine Finset.sum_congr rfl fun n _ => ?_
  have hl' : ∀ b, d.resultIdx? (ix2 n b) idx = some (ix2 k a) ↔ g n = k ∧ b = a := fun b => by
    have hl := lands_row d huw hiw hsd hivd idx n b k a
    rw [hg, toInt_small _ (lt_trans (g n).isLt hG)] at hl
    exact hl.trans (by rw [Fin.ext_iff]; omega)
  rw [Finset.sum_eq_single a (fun b _ hb => if_neg fun q => hb ((hl' b).1 q).2) fun q => absurd (Finset.mem_univ _) q]
  by_cases e : g n = k
  · rw [if_pos ((hl' a).2 ⟨e, rfl⟩), if_pos e, hu]
  · rw [if_neg (fun q => e ((hl' a).1 q).1), if_neg e, EReal.coe_zero]

end Cert.Scatter

end
-- ==== Proof.Math.Spaced.lean ====
/- The evenly spaced numbers of the reference, and the words it looks the virtual nodes up by. -/
module

public import proofs.«01_k».proof.Proof.Gen.ReferenceIdeal.Read
public import proofs.«01_k».proof.Proof.Math.Spec
public import Idealize.ShloMosaic.Lib.Routing.Ops
public import Idealize.ShloMosaic.Lib.Routing.Words
public import Idealize.ShloMosaic.Lib.Routing.OpsPair

@[expose] public section

set_option maxRecDepth 16384

noncomputable section

namespace Cert.ReferenceIdeal.Math

open Cert.ReferenceIdeal Cert.ReferenceIdeal.Gen Cert.ReferenceIdeal.Read Cert.Spec Cert.Coe Idealize.ShloMosaic
open scoped BigOperators

theorem word_zero : Ideal.ofBits .f32 0x00000000#32 = ((0 : ℝ) : EReal) := by
  simp [Ideal.ofBits, Ideal.ieee, -EReal.coe_mul, -EReal.coe_neg]
theorem word_one : Ideal.ofBits .f32 0x3F800000#32 = ((1 : ℝ) : EReal) := by
  simp [Ideal.ofBits, Ideal.ieee, -EReal.coe_mul, -EReal.coe_neg]; norm_num

/-- A vector of `m` entries with one more behind it, read at an entry. -/
theorem joined {m N : ℕ} (x : FVec Ideal ⟨1, ![m]⟩ .f32) (y : FVec Ideal ⟨1, ![1]⟩ .f32)
    (h : Shape.Concatenates [⟨1, ![m]⟩, ⟨1, ![1]⟩] ⟨1, ![N]⟩ 0) (f : ℕ → ℝ)
    (hx : ∀ i : Fin m, (x (ix1 i) : EReal) = ((f i.val : ℝ) : EReal)) (hy : (y (ix1 (0 : Fin 1)) : EReal) = ((f m : ℝ) : EReal))
    (j : Fin N) (hN : N = m + 1) :
    (concatenate ⟨1, ![N]⟩ 0 [⟨⟨1, ![m]⟩, x⟩, ⟨⟨1, ![1]⟩, y⟩] h (ix1 j) : EReal) = ((f j.val : ℝ) : EReal) := by
  by_cases hj : j.val < m
  · refine (concatenate_pair_apply_left 0 x y h (ix1 j) rfl (ix1 ⟨j.val, hj⟩) (fun b => ?_)).trans (hx ⟨j.val, hj⟩)
    match b with
    | ⟨0, _⟩ => rfl
  · have hm : j.val = m := by have := j.isLt; omega
    refine (concatenate_pair_apply_right 0 x y h (ix1 j) rfl rfl (ix1 (0 : Fin 1)) (fun b hb => ?_) ?_).trans ?_
    · match b with
      | ⟨0, _⟩ => exact absurd rfl hb
    · show 0 + m = j.val
      omega
    · rw [hm]; exact hy

/-- An entry of the evenly spaced numbers from `a` to `b`, as the reference computes all but the last. -/
theorem spaced (aw bw nw : BitVec 32) (a b n : ℝ) (ha : Ideal.ofBits .f32 aw = (a : EReal)) (hb : Ideal.ofBits .f32 bw = (b : EReal))
    (hn : Ideal.ofBits .f32 nw = (n : EReal)) (h0 : n ≠ 0) (i : ℕ) (hi : i < 2 ^ 31) :
    (FloatOps.addf (F := Ideal) (φ := .f32)
      (FloatOps.mulf (F := Ideal) (φ := .f32) (FloatOps.ofBits (F := Ideal) .f32 aw)
        (FloatOps.subf (F := Ideal) (φ := .f32) (FloatOps.ofBits (F := Ideal) .f32 0x3F800000#32)
          (FloatOps.hostDivf (F := Ideal) (φ := .f32) (FloatOps.sitofp (F := Ideal) .f32 (BitVec.ofNat 32 i)) (FloatOps.ofBits (F := Ideal) .f32 nw))))
      (FloatOps.mulf (F := Ideal) (φ := .f32) (FloatOps.ofBits (F := Ideal) .f32 bw)
        (FloatOps.hostDivf (F := Ideal) (φ := .f32) (FloatOps.sitofp (F := Ideal) .f32 (BitVec.ofNat 32 i)) (FloatOps.ofBits (F := Ideal) .f32 nw))) : EReal)
      = ((a * (1 - i / n) + b * (i / n) : ℝ) : EReal) := by
  show Ideal.ofBits .f32 aw * (Ideal.ofBits .f32 0x3F800000#32 - Ideal.div (FloatOps.sitofp (F := Ideal) .f32 (BitVec.ofNat 32 i)) (Ideal.ofBits .f32 nw))
    + Ideal.ofBits .f32 bw * Ideal.div (FloatOps.sitofp (F := Ideal) .f32 (BitVec.ofNat 32 i)) (Ideal.ofBits .f32 nw) = _
  rw [ha, hb, hn, word_one, sitofp_nat i hi, div_coe _ _ h0, ← EReal.coe_sub, ← EReal.coe_mul, ← EReal.coe_mul, ← EReal.coe_add]

/-- The offset of a virtual node. -/
theorem offset (j : Fin 8) : (val_main_v15 (F := Ideal) (ix1 j) : EReal) = ((off j.val : ℝ) : EReal) := by
  unfold val_main_v15
  refine joined _ _ _ (fun i => off i) (fun i => ?_) ?_ j rfl
  · have h4 : val_main_call0_v4 (F := Ideal) (ix1 i) = FloatOps.sitofp (F := Ideal) .f32 (BitVec.ofNat 32 i.val) := rfl
    have h7 : val_main_call0_v7 (F := Ideal) (idx_main_call0_v10 (ix1 i)) = FloatOps.ofBits (F := Ideal) .f32 0xBF800000#32 := rfl
    have h12 : val_main_call0_v12 (F := Ideal) (idx_main_call0_v13 (ix1 i)) = FloatOps.ofBits (F := Ideal) .f32 0x3F800000#32 := rfl
    rw [val_main_call0_v15_apply, val_main_call0_v11_apply, val_main_call0_v14_apply, val_main_call0_v10_apply, val_main_call0_v9_apply,
      val_main_call0_v13_apply, val_main_call0_v6_apply, val_main_call0_v8_apply, val_main_call0_v5_apply, val_main_call0_cst_1_apply, val_main_call0_cst_0_apply, h4, h7, h12]
    refine (spaced _ _ _ _ _ _ word_negOne word_one word_seven (by norm_num) i.val (by omega)).trans (congrArg (fun x : ℝ => (x : EReal)) ?_)
    unfold off; ring
  · have h16 : val_main_call0_v16 (F := Ideal) (ix1 (0 : Fin 1)) = FloatOps.ofBits (F := Ideal) .f32 0x3F800000#32 := rfl
    refine h16.trans ((word_one : _).trans (congrArg (fun x : ℝ => (x : EReal)) ?_))
    unfold off; norm_num

/-- A centre of the node features. -/
theorem centre64 (j : Fin 64) : (val_main_v44 (F := Ideal) (ix1 j) : EReal) = ((mu64 j.val : ℝ) : EReal) := by
  unfold val_main_v44
  refine joined _ _ _ (fun i => mu64 i) (fun i => ?_) ?_ j rfl
  · have h4 : val_main_call3_v4 (F := Ideal) (ix1 i) = FloatOps.sitofp (F := Ideal) .f32 (BitVec.ofNat 32 i.val) := rfl
    have h7 : val_main_call3_v7 (F := Ideal) (idx_main_call3_v10 (ix1 i)) = FloatOps.ofBits (F := Ideal) .f32 0x00000000#32 := rfl
    have h12 : val_main_call3_v12 (F := Ideal) (idx_main_call3_v13 (ix1 i)) = FloatOps.ofBits (F := Ideal) .f32 0x41A00000#32 := rfl
    rw [val_main_call3_v15_apply, val_main_call3_v11_apply, val_main_call3_v14_apply, val_main_call3_v10_apply, val_main_call3_v9_apply,
      val_main_call3_v13_apply, val_main_call3_v6_apply, val_main_call3_v8_apply, val_main_call3_v5_apply, val_main_call3_cst_1_apply, val_main_call3_cst_0_apply, h4, h7, h12]
    refine (spaced _ _ _ _ _ _ word_zero word_twenty word_sixtythree (by norm_num) i.val (by omega)).trans (congrArg (fun x : ℝ => (x : EReal)) ?_)
    unfold mu64; ring
  · have h16 : val_main_call3_v16 (F := Ideal) (ix1 (0 : Fin 1)) = FloatOps.ofBits (F := Ideal) .f32 0x41A00000#32 := rfl
    refine h16.trans ((word_twenty : _).trans (congrArg (fun x : ℝ => (x : EReal)) ?_))
    unfold mu64; norm_num

/-- A centre of the edge features. -/
theorem centre16 (j : Fin 16) : (val_main_v67 (F := Ideal) (ix1 j) : EReal) = ((mu16 j.val : ℝ) : EReal) := by
  unfold val_main_v67
  refine joined _ _ _ (fun i => mu16 i) (fun i => ?_) ?_ j rfl
  · have h4 : val_main_call5_v4 (F := Ideal) (ix1 i) = FloatOps.sitofp (F := Ideal) .f32 (BitVec.ofNat 32 i.val) := rfl
    have h7 : val_main_call5_v7 (F := Ideal) (idx_main_call5_v10 (ix1 i)) = FloatOps.ofBits (F := Ideal) .f32 0x00000000#32 := rfl
    have h12 : val_main_call5_v12 (F := Ideal) (idx_main_call5_v13 (ix1 i)) = FloatOps.ofBits (F := Ideal) .f32 0x41F00000#32 := rfl
    rw [val_main_call5_v15_apply, val_main_call5_v11_apply, val_main_call5_v14_apply, val_main_call5_v10_apply, val_main_call5_v9_apply,
      val_main_call5_v13_apply, val_main_call5_v6_apply, val_main_call5_v8_apply, val_main_call5_v5_apply, val_main_call5_cst_1_apply, val_main_call5_cst_0_apply, h4, h7, h12]
    refine (spaced _ _ _ _ _ _ word_zero word_thirty word_fifteen (by norm_num) i.val (by omega)).trans (congrArg (fun x : ℝ => (x : EReal)) ?_)
    unfold mu16; ring
  · have h16 : val_main_call5_v16 (F := Ideal) (ix1 (0 : Fin 1)) = FloatOps.ofBits (F := Ideal) .f32 0x41F00000#32 := rfl
    refine h16.trans ((word_thirty : _).trans (congrArg (fun x : ℝ => (x : EReal)) ?_))
    unfold mu16; norm_num

/-- The graph of a virtual node, eight to a graph. -/
theorem graph (j : Fin 128) : (val_main_v14 (F := Ideal) (ix1 j) : BitVec 32) = BitVec.ofNat 32 (j.val / 8) := by
  rw [val_main_v14_apply, val_main_v13_apply, val_main_v12_apply]
  rfl

/-- The word a virtual node's centroid is looked up by. -/
theorem graph_lookup (j : Fin 128) : (val_main_v21 (F := Ideal) (ix2 j (0 : Fin 1)) : BitVec 32) = BitVec.ofNat 32 (j.val / 8) := by
  rw [val_main_v21_apply, show idx_main_v21 (ix2 j (0 : Fin 1)) = ix1 j from eq_ix1 _, val_main_v20_apply, val_main_v17_apply,
    val_main_v16_apply, val_main_c_apply]
  refine (Routing.wrap_of_lt _ _ ?_).trans (graph j)
  rw [graph, BitVec.toNat_ofNat]; omega

/-- The remainder of a small number by eight, in the reference's words: the adjustment of a negative remainder leaves it. -/
theorem rem_words : ∀ j : Fin 128,
    Scalar.select (IntOp.andi (IntOp.cmpi .ne (IntOp.cmpi .slt (BitVec.ofNat 32 (j.val % 8)) 0#32) (IntOp.cmpi .slt 8#32 0#32))
        (IntOp.cmpi .ne (BitVec.ofNat 32 (j.val % 8)) 0#32))
      (IntOp.addi (BitVec.ofNat 32 (j.val % 8)) 8#32) (BitVec.ofNat 32 (j.val % 8)) = BitVec.ofNat 32 (j.val % 8) := by decide

/-- The place of a virtual node among the eight of its graph. -/
theorem place (j : Fin 128) : (val_main_v24 (F := Ideal) (ix1 j) : BitVec 32) = BitVec.ofNat 32 (j.val % 8) := by
  have h2 : ∀ i, (val_main_call1_v2 (F := Ideal) i : BitVec 32) = 8#32 := fun i => rfl
  have h4 : (val_main_call1_v4 (F := Ideal) (ix1 j) : BitVec 32) = BitVec.ofNat 32 (j.val % 8) := by
    rw [val_main_call1_v4_apply, val_main_call1_v3_apply, h2, val_main_v23_apply]
    exact Routing.remsi_word .host (by have := j.isLt; show j.val < _; omega) (by norm_num) (by norm_num)
  rw [val_main_v24_apply, val_main_call1_v12_apply, val_main_call1_v11_apply, val_main_call1_v8_apply, val_main_call1_v10_apply,
    val_main_call1_v9_apply, val_main_call1_v6_apply, val_main_call1_v14_apply, val_main_call1_v13_apply, val_main_call1_v7_apply,
    val_main_call1_v5_apply, val_main_call1_c_1_apply, val_main_call1_c_2_apply, val_main_call1_c_3_apply, h2, h4]
  exact rem_words j

/-- The word a virtual node's offset is looked up by. -/
theorem place_lookup (j : Fin 128) : (val_main_v30 (F := Ideal) (ix2 j (0 : Fin 1)) : BitVec 32) = BitVec.ofNat 32 (j.val % 8) := by
  rw [val_main_v30_apply, show idx_main_v30 (ix2 j (0 : Fin 1)) = ix1 j from eq_ix1 _, val_main_v29_apply, val_main_v26_apply,
    val_main_v25_apply, val_main_c_7_apply]
  refine (Routing.wrap_of_lt _ _ ?_).trans (place j)
  rw [place, BitVec.toNat_ofNat]; omega

end Cert.ReferenceIdeal.Math

end
-- ==== Proof.Math.Reference.lean ====
/- The reference read entry by entry: each of its arrays is the mathematics' over the reals. -/
module

public import proofs.«01_k».proof.Proof.Gen.ReferenceIdeal.Read
public import proofs.«01_k».proof.Proof.Math.Scatter
public import proofs.«01_k».proof.Proof.Math.Spaced
public import proofs.«01_k».proof.Proof.Math.Spec
public import Idealize.ShloMosaic.Lib.Routing.Ops
public import Idealize.ShloMosaic.Lib.Routing.OpsSet

@[expose] public section

set_option maxRecDepth 16384

noncomputable section

namespace Cert.ReferenceIdeal.Math

open Cert.ReferenceIdeal Cert.ReferenceIdeal.Gen Cert.ReferenceIdeal.Read Cert.Spec Cert.Coe Idealize.ShloMosaic
open scoped BigOperators

variable {X : Fin 16384 → Fin 3 → ℝ} {g : Fin 16384 → Fin 16}
variable {x0 : (⟨S16384x3, .f32⟩ : BufTy).Contents (Elt Ideal)} {x1 : (⟨S16384, .i32⟩ : BufTy).Contents (Elt Ideal)}

/-- The number of nodes of a graph. -/
theorem count (hg : ∀ n, (x1 (ix1 n) : BitVec 32) = BitVec.ofNat 32 (g n).val) (k : Fin 16) :
    (val_main_v3 (F := Ideal) x1 (ix1 k) : EReal) = ((cnt g k : ℝ) : EReal) := by
  unfold val_main_v3
  refine Scatter.add_one _ rfl rfl rfl _ g (by norm_num) (fun n => ?_) _ _ (fun _ => 1) (fun k => ?_) (fun n => ?_) k
  · exact (val_main_v2_apply x1 _).trans ((congrArg x1 (eq_ix1 _)).trans (hg n))
  · rw [val_main_v1_apply, val_main_cst_0_apply]; exact word_zero
  · rw [val_main_v0_apply, val_main_cst_apply]; exact word_one

/-- The sum of a coordinate over the nodes of a graph. -/
theorem total (hX : ∀ n a, (x0 (ix2 n a) : EReal) = ((X n a : ℝ) : EReal))
    (hg : ∀ n, (x1 (ix1 n) : BitVec 32) = BitVec.ofNat 32 (g n).val) (k : Fin 16) (a : Fin 3) :
    (val_main_v6 (F := Ideal) x0 x1 (ix2 k a) : EReal) = ((tot X g k a : ℝ) : EReal) := by
  unfold val_main_v6
  refine Scatter.add_row _ rfl rfl rfl rfl _ g (by norm_num) (fun n => ?_) _ _ X (fun k a => ?_) hX k a
  · exact (val_main_v5_apply x1 _).trans ((congrArg x1 (eq_ix1 _)).trans (hg n))
  · rw [val_main_v4_apply, val_main_cst_1_apply]; exact word_zero

/-- The centroid of a graph. -/
theorem centroid (hX : ∀ n a, (x0 (ix2 n a) : EReal) = ((X n a : ℝ) : EReal))
    (hg : ∀ n, (x1 (ix1 n) : BitVec 32) = BitVec.ofNat 32 (g n).val) (k : Fin 16) (a : Fin 3) :
    (val_main_v11 (F := Ideal) x0 x1 (ix2 k a) : EReal) = ((cen X g k a : ℝ) : EReal) := by
  have hd : (val_main_v10 (F := Ideal) x1 (ix2 k a) : EReal) = ((den g k : ℝ) : EReal) := by
    rw [val_main_v10_apply, val_main_v9_apply, val_main_v8_apply, val_main_v7_apply, val_main_cst_2_apply,
      show idx_main_v9 (idx_main_v10 (ix2 k a)) = ix1 k from eq_ix1 _]
    show max (val_main_v3 (F := Ideal) x1 (ix1 k) : EReal) (Ideal.ofBits .f32 0x3F800000#32) = _
    rw [count hg, word_one, max_coe]; rfl
  rw [val_main_v11_apply]
  show Ideal.div (val_main_v6 (F := Ideal) x0 x1 (ix2 k a)) (val_main_v10 (F := Ideal) x1 (ix2 k a)) = _
  rw [hd, total hX hg, div_coe _ _ (den_pos g k).ne']; rfl

/-- The position of a virtual node. -/
theorem position (hX : ∀ n a, (x0 (ix2 n a) : EReal) = ((X n a : ℝ) : EReal))
    (hg : ∀ n, (x1 (ix1 n) : BitVec 32) = BitVec.ofNat 32 (g n).val) (j : Fin 128) (a : Fin 3) :
    (val_main_v34 (F := Ideal) x0 x1 (ix2 j a) : EReal) = ((vpos X g j a : ℝ) : EReal) := by
  have hc : val_main_v22 (F := Ideal) x0 x1 (ix2 j a) = val_main_v11 (F := Ideal) x0 x1 (ix2 (⟨j.val / 8, by omega⟩ : Fin 16) a) := by
    unfold val_main_v22
    have hl := graph_lookup j
    have e1 : (ix2 j (0 : Fin 1)) = ValueIdx.ix2 j (0 : Fin 1) := ix2_eq_valueIdx _ _
    rw [ix2_eq_valueIdx, ix2_eq_valueIdx]
    exact Routing.gather_row _ rfl rfl rfl rfl rfl _ _ j a (⟨j.val / 8, by omega⟩ : Fin 16) (e1 ▸ hl) (by norm_num)
  have ho : val_main_v31 (F := Ideal) (ix1 j) = val_main_v15 (F := Ideal) (ix1 (⟨j.val % 8, by omega⟩ : Fin 8)) := by
    unfold val_main_v31
    have hl := place_lookup j
    have e1 : (ix2 j (0 : Fin 1)) = ValueIdx.ix2 j (0 : Fin 1) := ix2_eq_valueIdx _ _
    rw [ix1_eq_valueIdx, ix1_eq_valueIdx]
    exact Routing.gather_take1 _ rfl rfl rfl rfl _ _ j (⟨j.val % 8, by omega⟩ : Fin 8) (e1 ▸ hl) (by norm_num)
  have hi : idx_main_v32 (idx_main_v33 (ix2 j a)) = ix1 j := eq_ix1 _
  rw [val_main_v34_apply, val_main_v33_apply, val_main_v32_apply, hi, hc, ho]
  show (val_main_v11 (F := Ideal) x0 x1 _ : EReal) + (val_main_v15 (F := Ideal) _ : EReal) = _
  rw [centroid hX hg, offset, ← EReal.coe_add]; rfl

/-- The graph id a node's centroid is looked up by: the wrap of a negative id leaves it. -/
theorem lookup (hg : ∀ n, (x1 (ix1 n) : BitVec 32) = BitVec.ofNat 32 (g n).val) (n : Fin 16384) :
    (val_main_v40 (F := Ideal) x1 (ix2 n (0 : Fin 1)) : BitVec 32) = BitVec.ofNat 32 (g n).val := by
  rw [val_main_v40_apply, show idx_main_v40 (ix2 n (0 : Fin 1)) = ix1 n from eq_ix1 _, val_main_v39_apply, val_main_v36_apply,
    val_main_v35_apply, val_main_c_9_apply]
  refine (Routing.wrap_of_lt _ _ ?_).trans (hg n)
  have := (g n).isLt
  rw [hg n, BitVec.toNat_ofNat]; omega

/-- The squared distance of a node to the centroid of its graph. -/
theorem distance (hX : ∀ n a, (x0 (ix2 n a) : EReal) = ((X n a : ℝ) : EReal))
    (hg : ∀ n, (x1 (ix1 n) : BitVec 32) = BitVec.ofNat 32 (g n).val) (n : Fin 16384) :
    (val_main_call2_v1 (F := Ideal) x0 x1 (ix1 n) : EReal) = ((sqd X g (g n) n : ℝ) : EReal) := by
  have hd : ∀ a : Fin 3, (val_main_v42 (F := Ideal) x0 x1 (ix2 n a) : EReal) = ((X n a - cen X g (g n) a : ℝ) : EReal) := fun a => by
    rw [val_main_v42_apply]
    show (x0 (ix2 n a) : EReal) - (val_main_v41 (F := Ideal) x0 x1 (ix2 n a) : EReal) = _
    have h : val_main_v41 (F := Ideal) x0 x1 (ix2 n a) = val_main_v11 (F := Ideal) x0 x1 (ix2 (g n) a) := by
      unfold val_main_v41
      have hl := lookup hg n
      have e1 : (ix2 n (0 : Fin 1)) = ValueIdx.ix2 n (0 : Fin 1) := ix2_eq_valueIdx _ _
      rw [ix2_eq_valueIdx, ix2_eq_valueIdx]
      exact Routing.gather_row _ rfl rfl rfl rfl rfl _ _ n a (g n) (e1 ▸ hl) (by norm_num)
    rw [h, hX, centroid hX hg, ← EReal.coe_sub]
  rw [val_main_call2_v1_apply, val_main_call2_cst_apply]
  have hs : ∀ k : Fin 3, (val_main_call2_v0 (F := Ideal) x0 x1 (idx_main_call2_v1 (ix1 n) k) : EReal)
      = (((X n k - cen X g (g n) k) * (X n k - cen X g (g n) k) : ℝ) : EReal) := fun k => by
    rw [show idx_main_call2_v1 (ix1 n) k = ix2 n k from eq_ix2 _, val_main_call2_v0_apply]
    show (val_main_v42 (F := Ideal) x0 x1 (ix2 n k) : EReal) * _ = _
    rw [hd, ← EReal.coe_mul]
  refine (congrArg₂ (fun (a b : EReal) => a + b) word_zero ((Finset.sum_congr rfl fun k _ => hs k).trans (sum_coe _ _))).trans ?_
  rw [← EReal.coe_add, zero_add]; rfl

/-- A Gaussian of a distance, in the reference's operations. -/
theorem gauss (d c w : ℝ) (hw : w ≠ 0) :
    Ideal.exp (-(Ideal.div ((d : EReal) - (c : EReal)) (w : EReal) * Ideal.div ((d : EReal) - (c : EReal)) (w : EReal)))
      = ((Real.exp (-((d - c) / w * ((d - c) / w))) : ℝ) : EReal) := by
  rw [← EReal.coe_sub, div_coe _ _ hw, ← EReal.coe_mul, ← EReal.coe_neg]; rfl

/-- A Gaussian of the root of a squared distance, as the reference writes it. -/
theorem gauss_ops (d c : ℝ) (hd : 0 ≤ d) (word : BitVec 32) (w : ℝ) (hword : Ideal.ofBits .f32 word = (w : EReal)) (hw : w ≠ 0) :
    FloatOps.hostUnary (F := Ideal) (φ := .f32) .exp (FloatOps.hostNegf (F := Ideal) (φ := .f32) (FloatOps.mulf (F := Ideal) (φ := .f32)
      (FloatOps.hostDivf (F := Ideal) (φ := .f32) (FloatOps.subf (F := Ideal) (φ := .f32) (FloatOps.hostUnary (F := Ideal) (φ := .f32) .sqrt ((d : ℝ) : EReal)) ((c : ℝ) : EReal)) (FloatOps.ofBits (F := Ideal) .f32 word))
      (FloatOps.hostDivf (F := Ideal) (φ := .f32) (FloatOps.subf (F := Ideal) (φ := .f32) (FloatOps.hostUnary (F := Ideal) (φ := .f32) .sqrt ((d : ℝ) : EReal)) ((c : ℝ) : EReal)) (FloatOps.ofBits (F := Ideal) .f32 word))))
      = ((Real.exp (-((√d - c) / w * ((√d - c) / w))) : ℝ) : EReal) := by
  show Ideal.exp (-(Ideal.div (Ideal.sqrt (d : EReal) - (c : EReal)) (Ideal.ofBits .f32 word)
    * Ideal.div (Ideal.sqrt (d : EReal) - (c : EReal)) (Ideal.ofBits .f32 word))) = _
  rw [sqrt_coe _ hd, hword, gauss _ _ _ hw]

/-- A feature of a node. -/
theorem feature (hX : ∀ n a, (x0 (ix2 n a) : EReal) = ((X n a : ℝ) : EReal))
    (hg : ∀ n, (x1 (ix1 n) : BitVec 32) = BitVec.ofNat 32 (g n).val) (n : Fin 16384) (j : Fin 64) :
    (val_main_v54 (F := Ideal) x0 x1 (ix2 n j) : EReal) = ((nodeFeat X g n j.val : ℝ) : EReal) := by
  have h1 : idx_main_v45 (idx_main_v47 (ix2 n j)) = ix1 n := eq_ix1 _
  have h2 : idx_main_v46 (idx_main_v48 (ix2 n j)) = ix1 j := eq_ix1 _
  rw [val_main_v54_apply, val_main_v53_apply, val_main_v52_apply, val_main_v51_apply, val_main_v50_apply, val_main_cst_13_apply,
    val_main_v49_apply, val_main_v48_apply, val_main_v47_apply, val_main_v46_apply, val_main_v45_apply, val_main_v43_apply, h1, h2]
  have e1 := distance hX hg n
  have e2 := centre64 j
  generalize val_main_call2_v1 (F := Ideal) x0 x1 (ix1 n) = d at e1 ⊢
  generalize val_main_v44 (F := Ideal) (ix1 j) = c at e2 ⊢
  subst e1 e2
  exact gauss_ops _ _ (sqd_nonneg X g _ _) _ _ word_width64 (by norm_num)

/-- The squared distance of a node to a virtual node. -/
theorem edge_distance (hX : ∀ n a, (x0 (ix2 n a) : EReal) = ((X n a : ℝ) : EReal))
    (hg : ∀ n, (x1 (ix1 n) : BitVec 32) = BitVec.ofNat 32 (g n).val) (r : Fin 128) (n : Fin 16384) :
    (val_main_call4_v1 (F := Ideal) x0 x1 (ix2 r n) : EReal) = ((vsq X g ⟨r.val / 8, by omega⟩ (r.val % 8) n : ℝ) : EReal) := by
  have hs : ∀ k : Fin 3, (val_main_call4_v0 (F := Ideal) x0 x1 (idx_main_call4_v1 (ix2 r n) k) : EReal)
      = (((vpos X g r k - X n k) * (vpos X g r k - X n k) : ℝ) : EReal) := fun k => by
    have h1 : idx_main_v55 (idx_main_v57 (ix3 r n k)) = ix2 r k := eq_ix2 _
    have h2 : idx_main_v56 (idx_main_v58 (ix3 r n k)) = ix2 n k := eq_ix2 _
    have hd : (val_main_v59 (F := Ideal) x0 x1 (ix3 r n k) : EReal) = ((vpos X g r k - X n k : ℝ) : EReal) := by
      rw [val_main_v59_apply, val_main_v57_apply, val_main_v55_apply, val_main_v58_apply, val_main_v56_apply, h1, h2]
      show (val_main_v34 (F := Ideal) x0 x1 (ix2 r k) : EReal) - (x0 (ix2 n k) : EReal) = _
      rw [position hX hg, hX, ← EReal.coe_sub]
    rw [show idx_main_call4_v1 (ix2 r n) k = ix3 r n k from eq_ix3 _, val_main_call4_v0_apply]
    show (val_main_v59 (F := Ideal) x0 x1 (ix3 r n k) : EReal) * _ = _
    rw [hd, ← EReal.coe_mul]
  rw [val_main_call4_v1_apply, val_main_call4_cst_apply]
  refine (congrArg₂ (fun (a b : EReal) => a + b) word_zero ((Finset.sum_congr rfl fun k _ => hs k).trans (sum_coe _ _))).trans ?_
  rw [← EReal.coe_add, zero_add]; rfl

/-- Whether a node belongs to the graph of a virtual node, as a number. -/
theorem mask (hg : ∀ n, (x1 (ix1 n) : BitVec 32) = BitVec.ofNat 32 (g n).val) (r : Fin 128) (n : Fin 16384) :
    (val_main_v66 (F := Ideal) x1 (ix2 r n) : EReal) = ((if g n = ⟨r.val / 8, by omega⟩ then 1 else 0 : ℝ) : EReal) := by
  have h1 : idx_main_v13 (idx_main_v14 (idx_main_v61 (idx_main_v63 (ix2 r n)))) = ix1 (⟨r.val / 8, by omega⟩ : Fin 16) := eq_ix1 _
  have h2 : idx_main_v62 (idx_main_v64 (ix2 r n)) = ix1 n := eq_ix1 _
  rw [val_main_v66_apply, val_main_v65_apply, val_main_v64_apply, val_main_v62_apply, val_main_v63_apply, val_main_v61_apply,
    val_main_v14_apply, val_main_v13_apply, val_main_v12_apply, h1, h2, hg]
  show (((IntOp.cmpi .eq (BitVec.ofNat 32 (r.val / 8)) (BitVec.ofNat 32 (g n).val)).toNat : ℝ) : EReal) = _
  congr 1
  by_cases h : g n = ⟨r.val / 8, by omega⟩
  · rw [if_pos h, h]; simp [IntOp.cmpi]
  · rw [if_neg h]
    have hlt := (g n).isLt
    have hne : ¬ (r.val / 8 = (g n).val) := fun e => h (Fin.ext e.symm)
    have : (BitVec.ofNat 32 (r.val / 8)) ≠ BitVec.ofNat 32 (g n).val := fun e => by
      have := congrArg BitVec.toNat e
      rw [BitVec.toNat_ofNat, BitVec.toNat_ofNat] at this
      omega
    simp [IntOp.cmpi, this]

/-- The number of nodes of a virtual node's graph, at least one. -/
theorem degree (hg : ∀ n, (x1 (ix1 n) : BitVec 32) = BitVec.ofNat 32 (g n).val) (r : Fin 128) :
    (val_main_v80 (F := Ideal) x1 (ix1 r) : EReal) = ((den g ⟨r.val / 8, by omega⟩ : ℝ) : EReal) := by
  have hc : (val_main_v78 (F := Ideal) x1 (ix1 r) : EReal) = ((cnt g ⟨r.val / 8, by omega⟩ : ℝ) : EReal) := by
    have hs : ∀ n : Fin 16384, (val_main_v66 (F := Ideal) x1 (idx_main_v78 (ix1 r) n) : EReal)
        = ((if g n = ⟨r.val / 8, by omega⟩ then 1 else 0 : ℝ) : EReal) := fun n => by
      rw [show idx_main_v78 (ix1 r) n = ix2 r n from eq_ix2 _, mask hg]
    rw [val_main_v78_apply, val_main_cst_17_apply]
    refine (congrArg₂ (fun (a b : EReal) => a + b) word_zero ((Finset.sum_congr rfl fun n _ => hs n).trans (sum_coe _ _))).trans ?_
    rw [← EReal.coe_add, zero_add]; rfl
  rw [val_main_v80_apply, val_main_v79_apply, val_main_cst_18_apply]
  show max (val_main_v78 (F := Ideal) x1 (ix1 r) : EReal) (Ideal.ofBits .f32 0x3F800000#32) = _
  rw [hc, word_one, max_coe]; rfl

/-- A feature of the edge from a node to a virtual node. -/
theorem edge (hX : ∀ n a, (x0 (ix2 n a) : EReal) = ((X n a : ℝ) : EReal))
    (hg : ∀ n, (x1 (ix1 n) : BitVec 32) = BitVec.ofNat 32 (g n).val) (r : Fin 128) (n : Fin 16384) (b : Fin 16) :
    (val_main_v77 (F := Ideal) x0 x1 (ix3 r n b) : EReal) = ((edgeTerm X g ⟨r.val / 8, by omega⟩ (r.val % 8) b.val n : ℝ) : EReal) := by
  have h1 : idx_main_v68 (idx_main_v70 (ix3 r n b)) = ix2 r n := eq_ix2 _
  have h2 : idx_main_v69 (idx_main_v71 (ix3 r n b)) = ix1 b := eq_ix1 _
  rw [val_main_v77_apply, val_main_v76_apply, val_main_v75_apply, val_main_v74_apply, val_main_v73_apply, val_main_cst_16_apply,
    val_main_v72_apply, val_main_v71_apply, val_main_v70_apply, val_main_v69_apply, val_main_v68_apply, val_main_v60_apply, h1, h2]
  have e1 := edge_distance hX hg r n
  have e2 := centre16 b
  generalize val_main_call4_v1 (F := Ideal) x0 x1 (ix2 r n) = d at e1 ⊢
  generalize val_main_v67 (F := Ideal) (ix1 b) = c at e2 ⊢
  subst e1 e2
  exact gauss_ops _ _ (vsq_nonneg X g _ _ _) _ _ word_width16 (by norm_num)

/-- The mean of a feature over the edges of a virtual node. -/
theorem mean (hX : ∀ n a, (x0 (ix2 n a) : EReal) = ((X n a : ℝ) : EReal))
    (hg : ∀ n, (x1 (ix1 n) : BitVec 32) = BitVec.ofNat 32 (g n).val) (r : Fin 128) (b : Fin 16) :
    (val_main_v87 (F := Ideal) x0 x1 (ix2 r b) : EReal) = ((edgeFeat X g ⟨r.val / 8, by omega⟩ (r.val % 8) b.val : ℝ) : EReal) := by
  have hs : ∀ n : Fin 16384, (val_main_v84 (F := Ideal) x0 x1 (idx_main_v85 (ix2 r b) n) : EReal)
      = ((if g n = ⟨r.val / 8, by omega⟩ then edgeTerm X g ⟨r.val / 8, by omega⟩ (r.val % 8) b.val n else 0 : ℝ) : EReal) := fun n => by
    have h1 : idx_main_v82 (idx_main_v83 (ix3 r n b)) = ix2 r n := eq_ix2 _
    rw [show idx_main_v85 (ix2 r b) n = ix3 r n b from eq_ix3 _, val_main_v84_apply, val_main_v83_apply, val_main_v82_apply, h1]
    show (val_main_v77 (F := Ideal) x0 x1 (ix3 r n b) : EReal) * (val_main_v66 (F := Ideal) x1 (ix2 r n) : EReal) = _
    rw [edge hX hg, mask hg, ← EReal.coe_mul]
    congr 1
    split_ifs <;> simp
  have hn : (val_main_v85 (F := Ideal) x0 x1 (ix2 r b) : EReal)
      = ((∑ n, if g n = ⟨r.val / 8, by omega⟩ then edgeTerm X g ⟨r.val / 8, by omega⟩ (r.val % 8) b.val n else 0 : ℝ) : EReal) := by
    rw [val_main_v85_apply, val_main_cst_19_apply]
    refine (congrArg₂ (fun (a b : EReal) => a + b) word_zero ((Finset.sum_congr rfl fun n _ => hs n).trans (sum_coe _ _))).trans ?_
    rw [← EReal.coe_add, zero_add]
  have h1 : idx_main_v81 (idx_main_v86 (ix2 r b)) = ix1 r := eq_ix1 _
  rw [val_main_v87_apply, val_main_v86_apply, val_main_v81_apply, h1]
  show Ideal.div (val_main_v85 (F := Ideal) x0 x1 (ix2 r b)) (val_main_v80 (F := Ideal) x1 (ix1 r)) = _
  rw [hn, degree hg, div_coe _ _ (den_pos g _).ne']; rfl

/-- The means laid out as the kernel stores them: a row for each virtual node and feature, a column for each graph. -/
theorem mean_laid (hX : ∀ n a, (x0 (ix2 n a) : EReal) = ((X n a : ℝ) : EReal))
    (hg : ∀ n, (x1 (ix1 n) : BitVec 32) = BitVec.ofNat 32 (g n).val) (r : Fin 128) (i : Fin 16) :
    (val_main_v90 (F := Ideal) x0 x1 (ix2 r i) : EReal) = ((edgeFeat X g i (r.val / 16) (r.val % 16) : ℝ) : EReal) := by
  have q0 : (r.val * 16 + i.val) % 16 = i.val := by have := i.isLt; omega
  have q1 : (r.val * 16 + i.val) / 256 = r.val / 16 := by have := i.isLt; omega
  have q2 : (r.val * 16 + i.val) / 16 % 16 = r.val % 16 := by have := i.isLt; omega
  have hi : idx_main_v88 (idx_main_v89 (idx_main_v90 (ix2 r i)))
      = ix2 (⟨i.val * 8 + r.val / 16, by omega⟩ : Fin 128) (⟨r.val % 16, by omega⟩ : Fin 16) := by
    funext q
    apply Fin.ext
    match q with
    | ⟨0, _⟩ =>
      show (((r.val * 16 + i.val) % 16 * 8 + (r.val * 16 + i.val) / 256) * 16 + (r.val * 16 + i.val) / 16 % 16) / 16 = i.val * 8 + r.val / 16
      rw [q0, q1, q2]; omega
    | ⟨1, _⟩ =>
      show (((r.val * 16 + i.val) % 16 * 8 + (r.val * 16 + i.val) / 256) * 16 + (r.val * 16 + i.val) / 16 % 16) % 16 = r.val % 16
      rw [q0, q1, q2]; omega
  rw [val_main_v90_apply, val_main_v89_apply, val_main_v88_apply, hi, mean hX hg]
  have k1 : (⟨(i.val * 8 + r.val / 16) / 8, by omega⟩ : Fin 16) = i := Fin.ext (by show (i.val * 8 + r.val / 16) / 8 = i.val; omega)
  have k2 : (i.val * 8 + r.val / 16) % 8 = r.val / 16 := by omega
  exact congrArg (fun x : ℝ => (x : EReal)) (congrArg₂ (fun k v => edgeFeat X g k v (r.val % 16)) k1 k2)

end Cert.ReferenceIdeal.Math

end
-- ==== Proof.Math.Pre.lean ====
/- What the precondition says of the arguments: real coordinates, graph ids below sixteen, and every node apart from the
   virtual nodes of its graph. -/
module

public import proofs.«01_k».proof.Proof.PreFacts
public import proofs.«01_k».proof.Proof.Math.Reference
public import Idealize.ShloMosaic.Lib.StableHlo.Predicate

@[expose] public section

set_option maxRecDepth 16384

noncomputable section

namespace Cert.Pre_inputs_ok.Math

open Cert.Pre_inputs_ok Cert.Spec Cert.Coe Idealize.ShloMosaic
open scoped BigOperators

variable [Cert.Pre_inputs_ok.Facts]
variable {x0 : FVec Ideal ⟨2, ![16384, 3]⟩ .f32} {x1 : IVec ⟨1, ![16384]⟩ 32}

/-- The third test, entry by entry: another graph, or far enough in the reference's squared distance. -/
theorem third_at (r : Fin 128) (n : Fin 16384) :
    (fn (F := Ideal) x0 x1).2.2 (ix2 r n)
      = IntOp.ori (IntOp.cmpi .ne (Cert.ReferenceIdeal.Read.val_main_v63 (F := Ideal) (ix2 r n)) (Cert.ReferenceIdeal.Read.val_main_v64 (F := Ideal) x1 (ix2 r n)))
        (FloatOps.cmpf (F := Ideal) (φ := .f32) .oge (Cert.ReferenceIdeal.Read.val_main_call4_v1 (F := Ideal) x0 x1 (ix2 r n)) (FloatOps.ofBits (F := Ideal) .f32 0x1EEC1E4A#32)) := rfl

theorem first_at (n : Fin 16384) (a : Fin 3) :
    (fn (F := Ideal) x0 x1).1 (ix2 n a)
      = FloatOps.cmpf (F := Ideal) (φ := .f32) .olt (FloatOps.hostAbsf (F := Ideal) (φ := .f32) (x0 (ix2 n a))) (FloatOps.ofBits (F := Ideal) .f32 0x7F800000#32) := rfl

theorem second_at (n : Fin 16384) :
    (fn (F := Ideal) x0 x1).2.1 (ix1 n)
      = IntOp.andi (IntOp.cmpi .sge (x1 (ix1 n)) 0#32) (IntOp.cmpi .slt (x1 (ix1 n)) 16#32) := rfl

theorem word_inf : Ideal.ofBits .f32 0x7F800000#32 = (⊤ : EReal) := by
  simp [Ideal.ofBits, Ideal.ieee]

/-- A value whose absolute value is below infinity is a real. -/
theorem real_of (x : EReal) (h : FloatOps.cmpf (F := Ideal) (φ := .f32) .olt (FloatOps.hostAbsf (F := Ideal) (φ := .f32) x)
    (FloatOps.ofBits (F := Ideal) .f32 0x7F800000#32) = 1#1) : ∃ r : ℝ, x = (r : EReal) := by
  have hlt : max x (-x) < Ideal.ofBits .f32 0x7F800000#32 := by
    by_contra hn
    have e : FloatOps.cmpf (F := Ideal) (φ := .f32) .olt (FloatOps.hostAbsf (F := Ideal) (φ := .f32) x)
      (FloatOps.ofBits (F := Ideal) .f32 0x7F800000#32) = BitVec.ofBool (decide (max x (-x) < Ideal.ofBits .f32 0x7F800000#32)) := rfl
    rw [e, decide_eq_false hn] at h
    exact absurd h (by decide)
  rw [word_inf] at hlt
  obtain ⟨h1, h2⟩ := max_lt_iff.mp hlt
  have hb : x ≠ ⊥ := by rintro rfl; simp at h2
  exact ⟨x.toReal, (EReal.coe_toReal h1.ne hb).symm⟩

/-- A word at least zero and below sixteen, read signed, is a small natural's. -/
theorem small_of (b : BitVec 32) (h : IntOp.andi (IntOp.cmpi .sge b 0#32) (IntOp.cmpi .slt b 16#32) = 1#1) :
    ∃ k : Fin 16, b = BitVec.ofNat 32 k.val := by
  have hs : (0#32).sle b = true ∧ b.slt 16#32 = true := by
    have e : IntOp.andi (IntOp.cmpi .sge b 0#32) (IntOp.cmpi .slt b 16#32) = BitVec.ofBool ((0#32).sle b) &&& BitVec.ofBool (b.slt 16#32) := rfl
    rw [e] at h
    cases h1 : (0#32).sle b <;> cases h2 : b.slt 16#32 <;> simp [h1, h2] at h ⊢
  obtain ⟨h1, h2⟩ := hs
  rw [BitVec.sle_iff_toInt_le] at h1
  rw [BitVec.slt_iff_toInt_lt] at h2
  have z : (0#32 : BitVec 32).toInt = 0 := by decide
  have s : (16#32 : BitVec 32).toInt = 16 := by decide
  rw [z] at h1
  rw [s] at h2
  have hb : b.toNat < 16 := by
    rw [BitVec.toInt_eq_toNat_cond] at h1 h2
    have := b.isLt
    split_ifs at h1 h2 <;> omega
  exact ⟨⟨b.toNat, hb⟩, by simp⟩

/-- The precondition, as facts about reals: the coordinates are real, the ids are graphs, and no node is closer than the
    bound to a virtual node of its graph. -/
theorem decode (h : (fn (F := Ideal) x0 x1).1 = (fun _ => 1#1) ∧ (fn (F := Ideal) x0 x1).2.1 = (fun _ => 1#1)
      ∧ (fn (F := Ideal) x0 x1).2.2 = (fun _ => 1#1)) :
    ∃ (X : Fin 16384 → Fin 3 → ℝ) (g : Fin 16384 → Fin 16),
      (∀ n a, (x0 (ix2 n a) : EReal) = ((X n a : ℝ) : EReal)) ∧ (∀ n, x1 (ix1 n) = BitVec.ofNat 32 (g n).val)
      ∧ ∀ v < 8, ∀ n, (15474250 / 2 ^ 89 : ℝ) ≤ vsq X g (g n) v n := by
  obtain ⟨h1, h2, h3⟩ := h
  have hX : ∀ n a, ∃ r : ℝ, (x0 (ix2 n a) : EReal) = (r : EReal) := fun n a =>
    real_of _ ((first_at (x1 := x1) n a).symm.trans (congrFun h1 _))
  have hg : ∀ n, ∃ k : Fin 16, x1 (ix1 n) = BitVec.ofNat 32 k.val := fun n =>
    small_of _ ((second_at (x0 := x0) n).symm.trans (congrFun h2 _))
  choose X hX using hX
  choose g hg using hg
  refine ⟨X, g, hX, hg, fun v hv n => ?_⟩
  have hr : (g n).val * 8 + v < 128 := by have := (g n).isLt; omega
  have h4 := (third_at (x0 := x0) (x1 := x1) ⟨(g n).val * 8 + v, hr⟩ n).symm.trans (congrFun h3 _)
  have hd := Cert.ReferenceIdeal.Math.edge_distance (x0 := x0) (x1 := x1) hX hg ⟨(g n).val * 8 + v, hr⟩ n
  have k1 : (⟨((g n).val * 8 + v) / 8, by omega⟩ : Fin 16) = g n := Fin.ext (by show ((g n).val * 8 + v) / 8 = (g n).val; omega)
  have k2 : ((g n).val * 8 + v) % 8 = v := by omega
  have hv' : vsq X g ⟨((g n).val * 8 + v) / 8, by omega⟩ (((g n).val * 8 + v) % 8) n = vsq X g (g n) v n := by rw [k1, k2]
  have hw : Cert.ReferenceIdeal.Read.val_main_v63 (F := Ideal) (ix2 (⟨(g n).val * 8 + v, hr⟩ : Fin 128) n)
      = Cert.ReferenceIdeal.Read.val_main_v64 (F := Ideal) x1 (ix2 (⟨(g n).val * 8 + v, hr⟩ : Fin 128) n) := by
    rw [Cert.ReferenceIdeal.Read.val_main_v64_apply, Cert.ReferenceIdeal.Read.val_main_v62_apply,
      Cert.ReferenceIdeal.Read.val_main_v63_apply, Cert.ReferenceIdeal.Read.val_main_v61_apply,
      Cert.ReferenceIdeal.Read.val_main_v14_apply, Cert.ReferenceIdeal.Read.val_main_v13_apply,
      Cert.ReferenceIdeal.Read.val_main_v12_apply]
    refine Eq.trans ?_ ((congrArg x1 (eq_ix1 _)).trans (hg n)).symm
    show BitVec.ofNat 32 (((g n).val * 8 + v) / 8) = _
    rw [show ((g n).val * 8 + v) / 8 = (g n).val by omega]
  rw [hw] at h4
  by_contra hn
  have hlt : ¬ (Ideal.ofBits .f32 0x1EEC1E4A#32 ≤ ((vsq X g (g n) v n : ℝ) : EReal)) := by
    rw [word_apart, EReal.coe_le_coe_iff]; exact hn
  have hd' := hd.trans (congrArg (fun x : ℝ => (x : EReal)) hv')
  generalize Cert.ReferenceIdeal.Read.val_main_call4_v1 (F := Ideal) x0 x1 (ix2 (⟨(g n).val * 8 + v, hr⟩ : Fin 128) n) = d at h4 hd'
  generalize Cert.ReferenceIdeal.Read.val_main_v64 (F := Ideal) x1 (ix2 (⟨(g n).val * 8 + v, hr⟩ : Fin 128) n) = b at h4
  subst hd'
  have e : IntOp.ori (IntOp.cmpi .ne b b) (FloatOps.cmpf (F := Ideal) (φ := .f32) .oge ((vsq X g (g n) v n : ℝ) : EReal) (FloatOps.ofBits (F := Ideal) .f32 0x1EEC1E4A#32))
      = BitVec.ofBool (b != b) ||| BitVec.ofBool (decide (Ideal.ofBits .f32 0x1EEC1E4A#32 ≤ ((vsq X g (g n) v n : ℝ) : EReal))) := rfl
  rw [e, decide_eq_false hlt] at h4
  simp at h4

end Cert.Pre_inputs_ok.Math

end
-- ==== Proof.Math.Equation.lean ====
/- The equation: under the precondition the kernel's four results are the reference's. -/
module

public import proofs.«01_k».proof.Defs
public import proofs.«01_k».proof.Proof.Math.Arrays
public import proofs.«01_k».proof.Proof.Math.Pre

@[expose] public section

set_option maxRecDepth 16384

noncomputable section

namespace Cert.Equation

open Cert.Spec Idealize.ShloMosaic Idealize.SL.Sem
open scoped BigOperators

/-- The kernel's graph id of every virtual node is the reference's. -/
theorem ids (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v2 : IVec ⟨1, ![128]⟩ 32) = Cert.ReferenceIdeal.Read.val_main_v14 (F := Ideal) := by
  funext i
  obtain ⟨r, rfl⟩ : ∃ r : Fin 128, i = ix1 r := ⟨i 0, eq_ix1 i⟩
  rw [Cert.ReferenceIdeal.Read.val_main_v14_apply, Cert.ReferenceIdeal.Read.val_main_v13_apply, Cert.ReferenceIdeal.Read.val_main_v12_apply]
  show (Cert.KernelIdeal.Gen.V m c Cert.KernelIdeal.main_v2 : IVec ⟨1, ![128]⟩ 32) (ix1 r) = BitVec.ofNat 32 (r.val / 8)
  unfold Cert.KernelIdeal.Gen.V
  after_reads_at

variable {X : Fin 16384 → Fin 3 → ℝ} {g : Fin 16384 → Fin 16}
variable {x0 : FVec Ideal ⟨2, ![16384, 3]⟩ .f32} {x1 : IVec ⟨1, ![16384]⟩ 32}

/-- The reference's node features. -/
theorem nodes_eq (hX : ∀ n a, (x0 (ix2 n a) : EReal) = ((X n a : ℝ) : EReal)) (hg : ∀ n, x1 (ix1 n) = BitVec.ofNat 32 (g n).val) :
    Cert.ReferenceIdeal.Read.val_main_v54 (F := Ideal) x0 x1 = nodeArr X g := by
  funext i
  obtain ⟨n, j, rfl⟩ : ∃ (n : Fin 16384) (j : Fin 64), i = ix2 n j := ⟨i 0, i 1, eq_ix2 i⟩
  exact Cert.ReferenceIdeal.Math.feature hX hg n j

/-- The reference's positions of the virtual nodes. -/
theorem positions_eq (hX : ∀ n a, (x0 (ix2 n a) : EReal) = ((X n a : ℝ) : EReal)) (hg : ∀ n, x1 (ix1 n) = BitVec.ofNat 32 (g n).val) :
    Cert.ReferenceIdeal.Read.val_main_v34 (F := Ideal) x0 x1 = posArr X g := by
  funext i
  obtain ⟨j, a, rfl⟩ : ∃ (j : Fin 128) (a : Fin 3), i = ix2 j a := ⟨i 0, i 1, eq_ix2 i⟩
  exact Cert.ReferenceIdeal.Math.position hX hg j a

/-- The reference's means of the edge features. -/
theorem edges_eq (hX : ∀ n a, (x0 (ix2 n a) : EReal) = ((X n a : ℝ) : EReal)) (hg : ∀ n, x1 (ix1 n) = BitVec.ofNat 32 (g n).val) :
    Cert.ReferenceIdeal.Read.val_main_v90 (F := Ideal) x0 x1 = edgeArr X g := by
  funext i
  obtain ⟨r, k, rfl⟩ : ∃ (r : Fin 128) (k : Fin 16), i = ix2 r k := ⟨i 0, i 1, eq_ix2 i⟩
  exact Cert.ReferenceIdeal.Math.mean_laid hX hg r k

/-- Under the precondition both programs end with the same four results, element by element. -/
theorem equal : Cert.algebraic_KernelIdeal_ReferenceIdeal_pre_inputs_ok (hKernelIdeal := Cert.KernelIdeal.Gen.facts)
    (hReferenceIdeal := Cert.ReferenceIdeal.Gen.facts) (hPre_inputs_ok := Cert.Pre_inputs_ok.sideConditions) := by
  intro m ρ m' ρ' hpre hag
  haveI := Cert.Pre_inputs_ok.sideConditions
  have hd := fun c => Cert.Pre_inputs_ok.Math.decode (hpre c)
  choose X g hX hg ha using hd
  have hn := fun c => Cert.KernelIdeal.Math.nodes m c (hX c) (hg c)
  refine ⟨fun c => Cert.KernelIdeal.Gen.V m c Cert.KernelIdeal.main_v2, fun c => posArr (X c) (g c), fun c => nodeArr (X c) (g c),
    fun c => edgeArr (X c) (g c), ?_, ?_⟩
  · refine (θ_run _ _ _).mono (fun r h c => ?_) (Cert.KernelIdeal.Body.run_main m ρ)
    refine ⟨(h c).2 Cert.KernelIdeal.main_v2 (Pipeline.mem_restRefs_of Cert.KernelIdeal.main_v2 (by decide) (by decide)),
      ((h c).1 4).trans (Cert.KernelIdeal.Math.final4 (hn c)), ((h c).1 3).trans (Cert.KernelIdeal.Math.final3 (hn c)),
      ((h c).1 5).trans (Cert.KernelIdeal.Math.final5 (hn c) (ha c)), ?_, ?_⟩
    · exact ((h c).2 Cert.KernelIdeal.main_arg0 (Pipeline.mem_restRefs_of Cert.KernelIdeal.main_arg0 (by decide) (by decide))).trans
        (Cert.KernelIdeal.Gen.V_main_arg0 m c)
    · exact ((h c).2 Cert.KernelIdeal.main_arg1 (Pipeline.mem_restRefs_of Cert.KernelIdeal.main_arg1 (by decide) (by decide))).trans
        (Cert.KernelIdeal.Gen.V_main_arg1 m c)
  · refine (θ_run _ _ _).mono (fun r h c => ?_) (Cert.ReferenceIdeal.Value.run m' ρ')
    obtain ⟨h0, h1, h2, h3, h4, h5⟩ := h c
    have hX' : ∀ n a, ((m' ((c.tc : Thread Cert.ReferenceIdeal.nD Cert.ReferenceIdeal.τ).loc Cert.ReferenceIdeal.main_arg0) : FVec Ideal ⟨2, ![16384, 3]⟩ .f32) (ix2 n a) : EReal)
        = ((X c n a : ℝ) : EReal) := fun n a => (congrFun (hag c).1 _).trans (hX c n a)
    have hg' : ∀ n, (m' ((c.tc : Thread Cert.ReferenceIdeal.nD Cert.ReferenceIdeal.τ).loc Cert.ReferenceIdeal.main_arg1) : IVec ⟨1, ![16384]⟩ 32) (ix1 n)
        = BitVec.ofNat 32 (g c n).val := fun n => (congrFun (hag c).2 _).trans (hg c n)
    exact ⟨(h0.trans (Cert.ReferenceIdeal.Read.val_main_v14_eq (StableHlo.launchContents m' c))).trans (ids m c).symm,
      (h1.trans (Cert.ReferenceIdeal.Read.val_main_v34_eq (StableHlo.launchContents m' c))).trans (positions_eq hX' hg'),
      (h2.trans (Cert.ReferenceIdeal.Read.val_main_v54_eq (StableHlo.launchContents m' c))).trans (nodes_eq hX' hg'),
      (h3.trans (Cert.ReferenceIdeal.Read.val_main_v90_eq (StableHlo.launchContents m' c))).trans (edges_eq hX' hg'), h4, h5⟩

end Cert.Equation

end
-- ==== Proof.lean ====
/- The claims about the fused kernel, each proved from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Body.Frame
public import proofs.«01_k».proof.Proof.Bits.Frame
public import proofs.«01_k».proof.Proof.PreFacts
public import proofs.«01_k».proof.Proof.Math.Equation

@[expose] public section

noncomputable section

namespace Cert.Proof

open Idealize.ShloMosaic Idealize.SL.Sem

/-- The kernel as printed runs, leaves its arguments as they were and its semaphores at zero. -/
theorem kernel_frame : Cert.quiescent_Kernel := fun m ρ _ => Cert.Kernel.Body.frame m ρ

/-- The same of the kernel read over the reals. -/
theorem ideal_frame : Cert.quiescent_KernelIdeal := fun m ρ _ => Cert.KernelIdeal.Body.frame m ρ

/-- The same of the reference, which declares no semaphore. -/
theorem reference_frame : Cert.quiescent_ReferenceIdeal := fun m ρ _ =>
  (θ_run _ _ _).mono (fun _ h => ⟨fun c => ⟨(h c).2.2.2.2.1, (h c).2.2.2.2.2⟩, Idealize.ShloMosaic.sem_eq_zero_of_no_sems (by decide) _⟩)
    (Cert.ReferenceIdeal.Value.run m ρ)

/-- The two named constants are read as the reals they stand for. -/
theorem preserved : Cert.preserves_Kernel_KernelIdeal :=
  ⟨IdealRules.named_const.statement Cert.KernelIdeal.κ "a64" .f32 0x416C5F04#32 _ rfl,
    IdealRules.named_const.statement Cert.KernelIdeal.κ "a16" .f32 0x3ED21B92#32 _ rfl⟩

/-- The frames again under the precondition, which neither uses. -/
theorem ideal_frame_pre : Cert.quiescent_KernelIdeal_pre_inputs_ok (hKernelIdeal := Cert.KernelIdeal.Gen.facts)
    (hPre_inputs_ok := Cert.Pre_inputs_ok.sideConditions) := fun m ρ _ => Cert.KernelIdeal.Body.frame m ρ

theorem reference_frame_pre : Cert.quiescent_ReferenceIdeal_pre_inputs_ok (hReferenceIdeal := Cert.ReferenceIdeal.Gen.facts)
    (hPre_inputs_ok := Cert.Pre_inputs_ok.sideConditions) := fun m ρ _ => reference_frame m ρ trivial

/-- Everything claimed: the frames, the named constants, and the equation of all four results. -/
theorem claim : Cert.Claim := ⟨Cert.Kernel.Gen.facts, Cert.KernelIdeal.Gen.facts, Cert.ReferenceIdeal.Gen.facts,
  Cert.Pre_inputs_ok.sideConditions, kernel_frame, ideal_frame, ideal_frame_pre, reference_frame, reference_frame_pre, preserved,
  Cert.Equation.equal⟩

end Cert.Proof

end
